-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x512x8192 : Shape := ⟨3, ![3, 512, 8192]⟩
abbrev S3x512x8x256 : Shape := ⟨4, ![3, 512, 8, 256]⟩
abbrev S3x512x8 : Shape := ⟨3, ![3, 512, 8]⟩
abbrev S3x512x128 : Shape := ⟨3, ![3, 512, 128]⟩
abbrev S128 : Shape := ⟨1, ![128]⟩
abbrev S3x128x64x256 : Shape := ⟨4, ![3, 128, 64, 256]⟩
abbrev S3x128x64 : Shape := ⟨3, ![3, 128, 64]⟩
abbrev S_ : Shape := ⟨0, ![]⟩

class Facts : Prop where
  bcast_S_S3x512x8 : S_.BroadcastsInDim S3x512x8 (![] : Fin 0 → Fin S3x512x8.rank)
  reducesTo_S3x512x8_S_d0_1_2 : S3x512x8.ReducesTo [0, 1, 2] S_
  h_S_ : 0 < S_.numel
  bcast_S_S3x512x128 : S_.BroadcastsInDim S3x512x128 (![] : Fin 0 → Fin S3x512x128.rank)
  reducesTo_S3x512x128_S_d0_1_2 : S3x512x128.ReducesTo [0, 1, 2] S_
  bcast_S_S128 : S_.BroadcastsInDim S128 (![] : Fin 0 → Fin S128.rank)
  reducesTo_S128_S_d0 : S128.ReducesTo [0] S_

variable [Facts]

def fn {F : FTy → Type} [FloatOps F] (main_arg0 : FVec F S3x512x8192 .bf16) (main_arg1 : FVec F S3x512x8x256 .fp8e4m3) (main_arg2 : FVec F S3x512x8 .f32) (main_arg3 : FVec F S3x512x128 .f32) (main_arg4 : FVec F S128 .f32) (main_arg5 : FVec F S3x128x64x256 .fp8e4m3) (main_arg6 : FVec F S3x128x64 .f32) (main_arg7 : FVec F S3x128x64x256 .f32) : IVec S_ 1 :=
  let main_v0 : FVec F S3x512x8 .f32 := Host.absf main_arg2
  let main_cst : FVec F S_ .f32 := constant S_ .f32 0x7F800000#32
  let main_v1 : FVec F S3x512x8 .f32 := broadcastInDim S3x512x8 ![] bcast_S_S3x512x8 main_cst
  let main_v2 : IVec S3x512x8 1 := cmpf .olt main_v0 main_v1
  let main_c : IVec S_ 1 := constantI S_ 1 1#1
  let main_v3 : IVec S_ 1 := (fun x v => Host.reduce IntOp.andi x v reducesTo_S3x512x8_S_d0_1_2 h_S_) main_v2 main_c
  let main_v4 : FVec F S3x512x128 .f32 := Host.absf main_arg3
  let main_cst_0 : FVec F S_ .f32 := constant S_ .f32 0x7F800000#32
  let main_v5 : FVec F S3x512x128 .f32 := broadcastInDim S3x512x128 ![] bcast_S_S3x512x128 main_cst_0
  let main_v6 : IVec S3x512x128 1 := cmpf .olt main_v4 main_v5
  let main_c_1 : IVec S_ 1 := constantI S_ 1 1#1
  let main_v7 : IVec S_ 1 := (fun x v => Host.reduce IntOp.andi x v reducesTo_S3x512x128_S_d0_1_2 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S3x512x8192 : Shape := ⟨3, ![3, 512, 8192]⟩
abbrev S3x512x8x256 : Shape := ⟨4, ![3, 512, 8, 256]⟩
abbrev S3x512x8 : Shape := ⟨3, ![3, 512, 8]⟩
abbrev S3x512x128 : Shape := ⟨3, ![3, 512, 128]⟩
abbrev S128 : Shape := ⟨1, ![128]⟩
abbrev S3x128x64x256 : Shape := ⟨4, ![3, 128, 64, 256]⟩
abbrev S3x128x64 : Shape := ⟨3, ![3, 128, 64]⟩
abbrev S1x128 : Shape := ⟨2, ![1, 128]⟩
abbrev S1x512x1024 : Shape := ⟨3, ![1, 512, 1024]⟩
abbrev S1x512x8x256 : Shape := ⟨4, ![1, 512, 8, 256]⟩
abbrev S1x512x8 : Shape := ⟨3, ![1, 512, 8]⟩
abbrev S1x512x128 : Shape := ⟨3, ![1, 512, 128]⟩
abbrev S1x16x64x256 : Shape := ⟨4, ![1, 16, 64, 256]⟩
abbrev S1x128x64 : Shape := ⟨3, ![1, 128, 64]⟩
abbrev S1x16x64 : Shape := ⟨3, ![1, 16, 64]⟩
abbrev S2x4096x128 : Shape := ⟨3, ![2, 4096, 128]⟩
abbrev S8x512x256 : Shape := ⟨3, ![8, 512, 256]⟩
abbrev S512x128 : Shape := ⟨2, ![512, 128]⟩
abbrev S128x1024 : Shape := ⟨2, ![128, 1024]⟩
abbrev S64x128 : Shape := ⟨2, ![64, 128]⟩
abbrev S512x8 : Shape := ⟨2, ![512, 8]⟩
abbrev S512x1 : Shape := ⟨2, ![512, 1]⟩
abbrev S128x64 : Shape := ⟨2, ![128, 64]⟩
abbrev S1x64 : Shape := ⟨2, ![1, 64]⟩
abbrev S1x512x8x128 : Shape := ⟨4, ![1, 512, 8, 128]⟩
abbrev S512x8x128 : Shape := ⟨3, ![512, 8, 128]⟩
abbrev S4096x128 : Shape := ⟨2, ![4096, 128]⟩
abbrev S1x4096x128 : Shape := ⟨3, ![1, 4096, 128]⟩
abbrev S1x512x256 : Shape := ⟨3, ![1, 512, 256]⟩
abbrev S512x256 : Shape := ⟨2, ![512, 256]⟩
abbrev S1x4x64x256 : Shape := ⟨4, ![1, 4, 64, 256]⟩
abbrev S4x64x256 : Shape := ⟨3, ![4, 64, 256]⟩
abbrev S256x256 : Shape := ⟨2, ![256, 256]⟩
abbrev S128x256 : Shape := ⟨2, ![128, 256]⟩
abbrev S1x1x64x256 : Shape := ⟨4, ![1, 1, 64, 256]⟩
abbrev S64x256 : Shape := ⟨2, ![64, 256]⟩
abbrev S64x1 : Shape := ⟨2, ![64, 1]⟩
abbrev S64 : Shape := ⟨1, ![64]⟩
abbrev S16x64 : Shape := ⟨2, ![16, 64]⟩

abbrev nBuf : Space → Nat
  | .hbm => 12
  | .vmem => 29
  | .smem => 0
  | _ => 0

abbrev bufTy : (tb : Table) → Fin (tcTables nBuf tb) → BufTy
  | .hbm, ⟨0, _⟩ => ⟨S3x512x8192, .bf16⟩
  | .hbm, ⟨1, _⟩ => ⟨S3x512x8x256, .fp8e4m3⟩
  | .hbm, ⟨2, _⟩ => ⟨S3x512x8, .f32⟩
  | .hbm, ⟨3, _⟩ => ⟨S3x512x128, .f32⟩
  | .hbm, ⟨4, _⟩ => ⟨S128, .f32⟩
  | .hbm, ⟨5, _⟩ => ⟨S3x128x64x256, .fp8e4m3⟩
  | .hbm, ⟨6, _⟩ => ⟨S3x128x64, .f32⟩
  | .hbm, ⟨7, _⟩ => ⟨S3x128x64x256, .f32⟩
  | .hbm, ⟨8, _⟩ => ⟨S1x128, .f32⟩
  | .hbm, ⟨9, _⟩ => ⟨S3x512x8192, .bf16⟩
  | .hbm, ⟨10, _⟩ => ⟨S3x128x64x256, .fp8e4m3⟩
  | .hbm, ⟨11, _⟩ => ⟨S3x128x64, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x8x256, .fp8e4m3⟩
  | .local _ .vmem, ⟨3, _⟩ => ⟨S1x512x8x256, .fp8e4m3⟩
  | .local _ .vmem, ⟨4, _⟩ => ⟨S1x512x8, .f32⟩
  | .local _ .vmem, ⟨5, _⟩ => ⟨S1x512x8, .f32⟩
  | .local _ .vmem, ⟨6, _⟩ => ⟨S1x512x128, .f32⟩
  | .local _ .vmem, ⟨7, _⟩ => ⟨S1x512x128, .f32⟩
  | .local _ .vmem, ⟨8, _⟩ => ⟨S1x128, .f32⟩
  | .local _ .vmem, ⟨9, _⟩ => ⟨S1x16x64x256, .fp8e4m3⟩
  | .local _ .vmem, ⟨10, _⟩ => ⟨S1x16x64x256, .fp8e4m3⟩
  | .local _ .vmem, ⟨11, _⟩ => ⟨S1x128x64, .f32⟩
  | .local _ .vmem, ⟨12, _⟩ => ⟨S1x128x64, .f32⟩
  | .local _ .vmem, ⟨13, _⟩ => ⟨S1x16x64x256, .f32⟩
  | .local _ .vmem, ⟨14, _⟩ => ⟨S1x16x64x256, .f32⟩
  | .local _ .vmem, ⟨15, _⟩ => ⟨S1x512x1024, .bf16⟩
  | .local _ .vmem, ⟨16, _⟩ => ⟨S1x512x1024, .bf16⟩
  | .local _ .vmem, ⟨17, _⟩ => ⟨S1x16x64x256, .fp8e4m3⟩
  | .local _ .vmem, ⟨18, _⟩ => ⟨S1x16x64x256, .fp8e4m3⟩
  | .local _ .vmem, ⟨19, _⟩ => ⟨S1x16x64, .f32⟩
  | .local _ .vmem, ⟨20, _⟩ => ⟨S1x16x64, .f32⟩
  | .local _ .vmem, ⟨21, _⟩ => ⟨S2x4096x128, .f32⟩
  | .local _ .vmem, ⟨22, _⟩ => ⟨S8x512x256, .fp8e4m3⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S128x1024, .bf16⟩
  | .local _ .vmem, ⟨27, _⟩ => ⟨S64x128, .f32⟩
  | .local _ .vmem, ⟨28, _⟩ => ⟨S64x128, .f32⟩
  | _, _ => ⟨S3x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![3, 8], ![false, false]⟩

def k0_off1 (i : grid0.Coords) : Fin 3 → Nat :=
  let arg1 : BitVec 32 := BitVec.ofNat 32 (i 1).val
  let v105 : Index := Scalar.indexCast arg1
  let c0_40 : Index := 0#32
  let c0_41 : Index := 0#32
  ![v105.toNat, 0, 0]
def k0_off2 (i : grid0.Coords) (c0_i32_51 : BitVec 32) (c0_i32_52 : BitVec 32) : Fin 2 → Nat :=
  let arg1 : BitVec 32 := BitVec.ofNat 32 (i 1).val
  let c8_i32_50 : BitVec 32 := 8#32
  let v114 : BitVec 32 := Scalar.muli arg1 c8_i32_50
  let v115 : BitVec 32 := Scalar.addi v114 c0_i32_51
  let v116 : BitVec 32 := Scalar.addi v115 c0_i32_52
  let v117 : Index := Scalar.indexCast v116
  let c0_53 : Index := 0#32
  ![v117.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x64x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x64x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S3x512x8192 : Shape := ⟨3, ![3, 512, 8192]⟩
abbrev S3x512x8x256 : Shape := ⟨4, ![3, 512, 8, 256]⟩
abbrev S3x512x8 : Shape := ⟨3, ![3, 512, 8]⟩
abbrev S3x512x128 : Shape := ⟨3, ![3, 512, 128]⟩
abbrev S128 : Shape := ⟨1, ![128]⟩
abbrev S3x128x64x256 : Shape := ⟨4, ![3, 128, 64, 256]⟩
abbrev S3x128x64 : Shape := ⟨3, ![3, 128, 64]⟩
abbrev S1x1x128 : Shape := ⟨3, ![1, 1, 128]⟩
abbrev S_ : Shape := ⟨0, ![]⟩
abbrev S3x8x16x64x256 : Shape := ⟨5, ![3, 8, 16, 64, 256]⟩
abbrev S3x8x16x64x512 : Shape := ⟨5, ![3, 8, 16, 64, 512]⟩
abbrev S3x512x8x16x64 : Shape := ⟨5, ![3, 512, 8, 16, 64]⟩
abbrev S3x512x8x1x1 : Shape := ⟨5, ![3, 512, 8, 1, 1]⟩
abbrev S3x1x8x16x64 : Shape := ⟨5, ![3, 1, 8, 16, 64]⟩
abbrev S3x512x8x16x1 : Shape := ⟨5, ![3, 512, 8, 16, 1]⟩
abbrev S3x1x128 : Shape := ⟨3, ![3, 1, 128]⟩
abbrev S3x128 : Shape := ⟨2, ![3, 128]⟩
abbrev S3x128x1x1 : Shape := ⟨4, ![3, 128, 1, 1]⟩
abbrev S3x128x64x1 : Shape := ⟨4, ![3, 128, 64, 1]⟩
abbrev S3x128x64x246 : Shape := ⟨4, ![3, 128, 64, 246]⟩

abbrev nBuf : Space → Nat
  | .hbm => 20
  | .vmem => 10
  | .smem => 0
  | _ => 0

abbrev bufTy : (tb : Table) → Fin (tcTables nBuf tb) → BufTy
  | .hbm, ⟨0, _⟩ => ⟨S3x512x8192, .bf16⟩
  | .hbm, ⟨1, _⟩ => ⟨S3x512x8x256, .fp8e4m3⟩
  | .hbm, ⟨2, _⟩ => ⟨S3x512x8, .f32⟩
  | .hbm, ⟨3, _⟩ => ⟨S3x512x128, .f32⟩
  | .hbm, ⟨4, _⟩ => ⟨S128, .f32⟩
  | .hbm, ⟨5, _⟩ => ⟨S3x128x64x256, .fp8e4m3⟩
  | .hbm, ⟨6, _⟩ => ⟨S3x128x64, .f32⟩
  | .hbm, ⟨7, _⟩ => ⟨S3x128x64x256, .f32⟩
  | .hbm, ⟨8, _⟩ => ⟨S128, .f32⟩
  | .hbm, ⟨9, _⟩ => ⟨S128, .f32⟩
  | .hbm, ⟨10, _⟩ => ⟨S1x1x128, .f32⟩
  | .hbm, ⟨11, _⟩ => ⟨S3x512x128, .f32⟩
  | .hbm, ⟨12, _⟩ => ⟨S3x512x128, .f32⟩
  | .hbm, ⟨13, _⟩ => ⟨S_, .f32⟩
  | .hbm, ⟨14, _⟩ => ⟨S_, .f32⟩
  | .hbm, ⟨15, _⟩ => ⟨S3x512x128, .f32⟩
  | .hbm, ⟨16, _⟩ => ⟨S3x512x128, .f32⟩
  | .hbm, ⟨17, _⟩ => ⟨S3x512x8192, .bf16⟩
  | .hbm, ⟨18, _⟩ => ⟨S3x128x64x256, .fp8e4m3⟩
  | .hbm, ⟨19, _⟩ => ⟨S3x128x64, .f32⟩
  | .local _ .vmem, ⟨0, _⟩ => ⟨S3x512x8192, .bf16⟩
  | .local _ .vmem, ⟨1, _⟩ => ⟨S3x512x8x256, .fp8e4m3⟩
  | .local _ .vmem, ⟨2, _⟩ => ⟨S3x512x8, .f32⟩
  | .local _ .vmem, ⟨3, _⟩ => ⟨S3x512x128, .f32⟩
  | .local _ .vmem, ⟨4, _⟩ => ⟨S3x128x64x256, .fp8e4m3⟩
  | .local _ .vmem, ⟨5, _⟩ => ⟨S3x128x64, .f32⟩
  | .local _ .vmem, ⟨6, _⟩ => ⟨S3x128x64x256, .f32⟩
  | .local _ .vmem, ⟨7, _⟩ => ⟨S3x512x8192, .bf16⟩
  | .local _ .vmem, ⟨8, _⟩ => ⟨S3x128x64x256, .fp8e4m3⟩
  | .local _ .vmem, ⟨9, _⟩ => ⟨S3x128x64, .f32⟩
  | _, _ => ⟨S3x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_call0_cst : Ref sig .tc := ⟨.hbm, 13, rfl⟩
abbrev main_call0_call0_v0 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512x8x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128x64x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x128x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x512x8192 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x128x64x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Own.Quant.lean ====
/- The quantiser's power-of-two scale: what the kernel reads off a table of words and what the reference finds
   among the powers of two are one number. -/
module

public import Idealize.ShloMosaic.Lib.Pointwise

@[expose] public section

set_option maxRecDepth 16384

noncomputable section

namespace Cert.Own

open Idealize.ShloMosaic Idealize.ShloMosaic.TcCoe Idealize.SL.Sem

/-- The word whose exponent field is `n` and whose other bits are zero. -/
def tab (n : Nat) : BitVec 32 := IntOp.shli ArithUnit.vector (BitVec.ofNat 32 n) 23#32

/-- The word of exponent field `n` is `n` times 2 to the 23. -/
theorem tab_eq (n : Nat) : tab n = BitVec.ofNat 32 (n * 2 ^ 23) := by
  unfold tab IntOp.shli
  rw [if_pos (by decide)]
  apply BitVec.eq_of_toNat_eq
  simp [BitVec.toNat_shiftLeft, Nat.shiftLeft_eq]

/-- The value of a positive normal word, from its three fields. -/
theorem ofBits_normal (b : BitVec 32) (n f : Nat) (hx : (b.extractLsb' 23 8).toNat = n) (hf : (b.extractLsb' 0 23).toNat = f)
    (hs : b.extractLsb' 31 1 = 0#1) (h1 : n ≠ 255) (h2 : n ≠ 0) :
    (Ideal.ofBits .f32 b : EReal) = ((((2 ^ 23 + f : Nat) : ℝ) * (2 : ℝ) ^ ((n : Int) - 150) : ℝ) : EReal) := by
  have e : (Ideal.ofBits .f32 b : EReal) = Ideal.ieee 8 23 b := rfl
  rw [e]
  unfold Ideal.ieee
  have hb : (b.extractLsb' (8 + 23) 1 == 1#1) = false := by rw [show 8 + 23 = 31 from rfl, hs]; decide
  simp only [hx, hf, hb]
  rw [if_neg (by omega : ¬ n = 2 ^ 8 - 1), if_neg h2]
  refine EReal.coe_eq_coe_iff.2 ?_
  have : (n : Int) - (2 ^ (8 - 1) - 1) - ((23 : Nat) : Int) = (n : Int) - 150 := by norm_num; omega
  rw [this]
  simp

/-- The fields of a table word. -/
theorem tab_fields : ∀ n : Fin 256, ((tab n).extractLsb' 23 8).toNat = n ∧ ((tab n).extractLsb' 0 23).toNat = 0 ∧
    (tab n).extractLsb' 31 1 = 0#1 := by decide +kernel

/-- The next word, and the word of the inverse power. -/
theorem tab_next : ∀ n : Fin 247, 1 ≤ n.val →
    IntOp.addi (tab n) 8388608#32 = tab (n + 1) ∧ IntOp.cmpi .eq (tab n) 0#32 = 0#1 := by decide +kernel

/-- The word of 254 less the field is the constant less the word. -/
theorem tab_inv : ∀ n : Fin 248, IntOp.subi 2130706432#32 (tab n) = tab (254 - n) := by decide +kernel

/-- A table word of a normal exponent is a power of two. -/
theorem ofBits_tab {n : Nat} (h1 : 1 ≤ n) (h2 : n ≤ 254) :
    (Ideal.ofBits .f32 (tab n) : EReal) = (((2 : ℝ) ^ ((n : Int) - 127) : ℝ) : EReal) := by
  obtain ⟨hx, hf, hs⟩ := tab_fields ⟨n, by omega⟩
  rw [ofBits_normal _ n 0 hx hf hs (by omega) (by omega)]
  refine EReal.coe_eq_coe_iff.2 ?_
  rw [show (n : Int) - 127 = ((n : Int) - 150) + 23 by ring, zpow_add₀ (by norm_num), mul_comm]
  norm_num

/-- The word of field 0 reads as zero. -/
theorem ofBits_tab_zero : (Ideal.ofBits .f32 (tab 0) : EReal) = 0 := by
  rw [tab_eq]; simp [Ideal.ofBits, Ideal.ieee]

/-- The word of field 255 reads as infinity. -/
theorem ofBits_tab_top : (Ideal.ofBits .f32 (tab 255) : EReal) = ⊤ := by
  rw [tab_eq]; simp [Ideal.ofBits, Ideal.ieee]

/-- Powers of two grow with the exponent. -/
theorem pow_le {a b : Int} (h : a ≤ b) : ((((2 : ℝ) ^ a : ℝ)) : EReal) ≤ (((2 : ℝ) ^ b : ℝ) : EReal) :=
  EReal.coe_le_coe_iff.2 (zpow_le_zpow_right₀ (by norm_num) h)

/-- The table's values grow with the exponent. -/
theorem tab_mono {a b : Nat} (h : a ≤ b) (hb : b ≤ 255) :
    (Ideal.ofBits .f32 (tab a) : EReal) ≤ Ideal.ofBits .f32 (tab b) := by
  rcases Nat.eq_zero_or_pos a with rfl | ha
  · rw [ofBits_tab_zero]
    rcases Nat.eq_zero_or_pos b with rfl | hb0
    · rw [ofBits_tab_zero]
    rcases Nat.lt_or_ge b 255 with hb1 | hb1
    · rw [ofBits_tab hb0 (by omega)]; exact EReal.coe_nonneg.2 (by positivity)
    · obtain rfl : b = 255 := by omega
      rw [ofBits_tab_top]; exact le_top
  rcases Nat.lt_or_ge b 255 with hb1 | hb1
  · rw [ofBits_tab ha (by omega), ofBits_tab (by omega) (by omega)]; exact pow_le (by omega)
  · obtain rfl : b = 255 := by omega
    rw [ofBits_tab_top]; exact le_top

/-- A signed maximum of words that contains its greatest word is that word. -/
theorem fold_maxsi {ι : Type} [DecidableEq ι] (s : Finset ι) (f : ι → BitVec 32) (b v : BitVec 32) (k : ι) (hk : k ∈ s)
    (hv : f k = v) (hb : b.toInt ≤ v.toInt) (hf : ∀ i ∈ s, (f i).toInt ≤ v.toInt) :
    s.fold IntOp.maxsi b f = v := by
  apply BitVec.eq_of_toInt_eq
  have hom : ∀ x y : BitVec 32, (IntOp.maxsi x y).toInt = max x.toInt y.toInt := by
    intro x y
    unfold IntOp.maxsi
    by_cases h : y.slt x = true
    · rw [if_pos h]; have := BitVec.slt_iff_toInt_lt.1 h; omega
    · rw [if_neg h]; have := mt BitVec.slt_iff_toInt_lt.2 h; omega
  have := Finset.fold_hom (op := IntOp.maxsi) (op' := max) (s := s) (f := f) (b := b) (m := BitVec.toInt) hom
  rw [← this]
  apply le_antisymm
  · rw [Finset.fold_max_le]; exact ⟨hb, hf⟩
  · rw [Finset.le_fold_max]; exact Or.inr ⟨k, hk, by rw [hv]⟩

/-- The word of field `n`, as a signed number. -/
theorem tab_toInt {n : Nat} (h : n ≤ 255) : (tab n).toInt = n * 2 ^ 23 := by
  rw [tab_eq, BitVec.toInt_eq_toNat_of_lt (by simp; omega)]; simp; omega

/-- The cap of the table's search: the largest finite value divided by the codes' largest one. -/
abbrev CAP : EReal := Ideal.ofBits .f32 2064795940#32

/-- The cap of the comparison as a real number. -/
theorem CAP_eq : CAP = (((9586980 : ℝ) * (2 : ℝ) ^ (96 : Int) : ℝ) : EReal) := by
  unfold CAP
  rw [ofBits_normal 2064795940#32 246 1198372 (by decide) (by decide) (by decide) (by decide) (by decide)]
  refine EReal.coe_eq_coe_iff.2 ?_
  norm_num

/-- The cap lies between two powers of two. -/
theorem CAP_lt : CAP < (((2 : ℝ) ^ (120 : Int) : ℝ) : EReal) := by
  rw [CAP_eq]; refine EReal.coe_lt_coe_iff.2 ?_; norm_num

/-- The cap is at least 2 to the 119. -/
theorem CAP_ge : (((2 : ℝ) ^ (119 : Int) : ℝ) : EReal) ≤ CAP := by
  rw [CAP_eq]; refine EReal.coe_le_coe_iff.2 ?_; norm_num

/-- The exponent word the kernel finds for a value `a`: the greatest table word whose value does not exceed
    `a`, with `a` capped; a value that differs from itself has the mask's word. -/
def kexp (a : EReal) : BitVec 32 :=
  if a - a ≠ a - a then 2139095040#32
  else Finset.fold IntOp.maxsi (2147483648#32)
    (fun x : Fin 256 => if (Ideal.ofBits .f32 (IntOp.shli ArithUnit.vector (BitVec.ofNat 32 ↑x) 23#32) : EReal) ≤
        min a (Ideal.ofBits .f32 2064795940#32) then IntOp.shli ArithUnit.vector (BitVec.ofNat 32 ↑x) 23#32 else 0#32)
    Finset.univ

/-- The kernel's scale word: one for a zero exponent word, else the next exponent. -/
def ksb (a : EReal) : BitVec 32 :=
  Scalar.select (IntOp.cmpi .eq (kexp a) 0#32) 1065353216#32 (IntOp.addi (kexp a) 8388608#32)

/-- The reference's scale: the least power of two above `a`, and one below the least normal number. -/
def rsc (a : EReal) : EReal :=
  if a < Ideal.ofBits .f32 8388608#32 then 1
  else Finset.fold min (Ideal.ofBits .f32 2139095040#32)
    (fun x : Fin 246 => if a < Ideal.exp2 ((((BitVec.ofNat 32 ↑x).toInt : ℝ) : EReal) - Ideal.ofBits .f32 1123680256#32)
      then Ideal.exp2 ((((BitVec.ofNat 32 ↑x).toInt : ℝ) : EReal) - Ideal.ofBits .f32 1123680256#32)
      else Ideal.ofBits .f32 2071986176#32) Finset.univ

/-- The word of the greatest power of the reference reads as 2 to the 120. -/
theorem big_eq : (Ideal.ofBits .f32 2071986176#32 : EReal) = (((2 : ℝ) ^ (120 : Int) : ℝ) : EReal) := by
  have := ofBits_tab (n := 247) (by decide) (by decide)
  rw [show tab 247 = 2071986176#32 by decide] at this; rw [this]; norm_num

/-- The word of one reads as one. -/
theorem one_eq : (Ideal.ofBits .f32 1065353216#32 : EReal) = 1 := by
  have := ofBits_tab (n := 127) (by decide) (by decide)
  rw [show tab 127 = 1065353216#32 by decide] at this; rw [this]; norm_num

/-- The word of infinity reads as infinity. -/
theorem inf_eq : (Ideal.ofBits .f32 2139095040#32 : EReal) = ⊤ := by
  have := ofBits_tab_top
  rwa [show tab 255 = 2139095040#32 by decide] at this

/-- The reference's powers. -/
theorem exp2_eq (x : Fin 246) :
    Ideal.exp2 ((((BitVec.ofNat 32 ↑x).toInt : ℝ) : EReal) - Ideal.ofBits .f32 1123680256#32)
      = (((2 : ℝ) ^ ((x.val : Int) - 125) : ℝ) : EReal) := by
  have h125 : (Ideal.ofBits .f32 1123680256#32 : EReal) = ((125 : ℝ) : EReal) := by
    rw [ofBits_normal 1123680256#32 133 7995392 (by decide) (by decide) (by decide) (by decide) (by decide)]
    refine EReal.coe_eq_coe_iff.2 ?_
    norm_num
  have hx : (BitVec.ofNat 32 x.val).toInt = x.val := by
    rw [BitVec.toInt_eq_toNat_of_lt (by simp; omega)]; simp; omega
  rw [h125, hx, ← EReal.coe_sub, Ideal.exp2_coe]
  refine EReal.coe_eq_coe_iff.2 ?_
  rw [← Real.rpow_intCast]
  push_cast
  rfl

/-- The exponent word of a value below the least normal number is zero. -/
theorem kexp_small {a : EReal} (h : a < Ideal.ofBits .f32 8388608#32) : kexp a = 0#32 := by
  unfold kexp
  rw [if_neg (by simp)]
  have h0 : tab 0 = 0#32 := by decide
  refine fold_maxsi _ _ _ _ (0 : Fin 256) (Finset.mem_univ _) ?_ (by decide) fun i _ => ?_
  · split
    · exact h0
    · rfl
  · split
    · rename_i hi
      rcases Nat.eq_zero_or_pos i.val with h | h'
      · rw [show IntOp.shli ArithUnit.vector (BitVec.ofNat 32 i.val) 23#32 = tab i.val from rfl, h, h0]
      · exfalso
        have h1 := tab_mono (a := 1) (b := i.val) h' (by omega)
        rw [show tab 1 = 8388608#32 by decide] at h1
        exact absurd (h1.trans (hi.trans (min_le_left _ _))) (not_le.2 h)
    · exact le_rfl

/-- The exponent word of another value: the table word of the exponent whose binade holds the capped value. -/
theorem kexp_big {a : EReal} (h : ¬ a < Ideal.ofBits .f32 8388608#32) :
    ∃ K : Nat, 1 ≤ K ∧ K ≤ 246 ∧ kexp a = tab K ∧ (((2 : ℝ) ^ ((K : Int) - 127) : ℝ) : EReal) ≤ min a CAP ∧
      min a CAP < (((2 : ℝ) ^ ((K : Int) - 126) : ℝ) : EReal) := by
  classical
  set P : Nat → Prop := fun n => (Ideal.ofBits .f32 (tab n) : EReal) ≤ min a CAP with hP
  have h1 : P 1 := by
    rw [hP]
    refine le_min ?_ ?_
    · rw [show tab 1 = 8388608#32 by decide]; exact not_lt.1 h
    · rw [ofBits_tab (by decide) (by decide)]; exact (pow_le (by decide)).trans CAP_ge
  have hK1 : 1 ≤ Nat.findGreatest P 246 := Nat.le_findGreatest (by decide) h1
  have hK : P (Nat.findGreatest P 246) := Nat.findGreatest_spec (m := 1) (by decide) h1
  have hK2 : Nat.findGreatest P 246 ≤ 246 := Nat.findGreatest_le _
  have hN : ¬ P (Nat.findGreatest P 246 + 1) := by
    rcases Nat.lt_or_ge (Nat.findGreatest P 246) 246 with hlt | hge
    · exact Nat.findGreatest_is_greatest (Nat.lt_succ_self _) hlt
    · have : Nat.findGreatest P 246 = 246 := le_antisymm hK2 hge
      rw [this, hP]
      refine not_le.2 (lt_of_le_of_lt (min_le_right _ _) ?_)
      rw [ofBits_tab (by decide) (by decide)]
      exact CAP_lt.trans_le (pow_le (by decide))
  generalize Nat.findGreatest P 246 = K at *
  refine ⟨K, hK1, hK2, ?_, ?_, ?_⟩
  · unfold kexp
    rw [if_neg (by simp)]
    refine fold_maxsi _ _ _ _ (⟨K, by omega⟩ : Fin 256) (Finset.mem_univ _) ?_ ?_ fun i _ => ?_
    · exact if_pos hK
    · rw [tab_toInt (by omega)]; exact le_trans (by decide : _ ≤ (0 : Int)) (by positivity)
    · split
      · rename_i hi
        change (tab i.val).toInt ≤ _
        rw [tab_toInt (by omega), tab_toInt (by omega)]
        have : i.val ≤ K := by
          by_contra hc
          exact hN ((tab_mono (a := K + 1) (b := i.val) (by omega) (by omega)).trans hi)
        omega
      · rw [tab_toInt (by omega)]; exact le_trans (by decide : _ ≤ (0 : Int)) (by positivity)
  · rw [← ofBits_tab hK1 (by omega)]; exact hK
  · rw [hP] at hN
    have := not_le.1 hN
    rw [ofBits_tab (by omega) (by omega)] at this
    rwa [show ((K + 1 : Nat) : Int) - 127 = (K : Int) - 126 by push_cast; ring] at this

/-- The reference's search finds the least power above the value. -/
theorem fold_least (a : EReal) (p : Nat) (hp : p ≤ 245) (hlt : a < (((2 : ℝ) ^ ((p : Int) - 125) : ℝ) : EReal) ∨ p = 245)
    (hge : ∀ n < p, (((2 : ℝ) ^ ((n : Int) - 125) : ℝ) : EReal) ≤ a) :
    Finset.fold min (Ideal.ofBits .f32 2139095040#32 : EReal)
    (fun x : Fin 246 => if a < Ideal.exp2 ((((BitVec.ofNat 32 ↑x).toInt : ℝ) : EReal) - Ideal.ofBits .f32 1123680256#32)
      then Ideal.exp2 ((((BitVec.ofNat 32 ↑x).toInt : ℝ) : EReal) - Ideal.ofBits .f32 1123680256#32)
      else Ideal.ofBits .f32 2071986176#32) Finset.univ = (((2 : ℝ) ^ ((p : Int) - 125) : ℝ) : EReal) := by
  simp only [exp2_eq, big_eq, inf_eq]
  apply le_antisymm
  · rw [Finset.fold_min_le]
    refine Or.inr ⟨⟨p, by omega⟩, Finset.mem_univ _, ?_⟩
    split
    · exact le_rfl
    · rename_i hn
      rcases hlt with h | rfl
      · exact absurd h hn
      · exact pow_le (by decide)
  · rw [Finset.le_fold_min]
    refine ⟨le_top, fun i _ => ?_⟩
    split
    · rename_i hi
      apply pow_le
      by_contra hc
      exact absurd (hge i.val (by omega)) (not_le.2 hi)
    · exact pow_le (by omega)

/-- Kernel and reference find one power of two: the kernel's word is the table word of an exponent `p`, and the
    reference's scale is that word's value. -/
theorem scale_common (a : EReal) :
    ∃ p : Nat, 2 ≤ p ∧ p ≤ 247 ∧ ksb a = tab p ∧ rsc a = (((2 : ℝ) ^ ((p : Int) - 127) : ℝ) : EReal) := by
  by_cases h : a < Ideal.ofBits .f32 8388608#32
  · refine ⟨127, by decide, by decide, ?_, ?_⟩
    · unfold ksb; rw [kexp_small h]; decide
    · unfold rsc; rw [if_pos h]; norm_num
  · obtain ⟨K, h1, h2, hk, hlo, hhi⟩ := kexp_big h
    refine ⟨K + 1, by omega, by omega, ?_, ?_⟩
    · unfold ksb
      obtain ⟨ha, hc⟩ := tab_next ⟨K, by omega⟩ h1
      rw [hk, hc]
      exact ha
    · unfold rsc
      rw [if_neg h, fold_least a (K - 1) (by omega)]
      · rw [show ((K - 1 : Nat) : Int) - 125 = ((K + 1 : Nat) : Int) - 127 by omega]
      · rcases Nat.lt_or_ge K 246 with hl | hl
        · left
          rcases lt_or_ge a CAP with hac | hac
          · rw [min_eq_left hac.le] at hhi
            rwa [show ((K - 1 : Nat) : Int) - 125 = (K : Int) - 126 by omega]
          · rw [min_eq_right hac] at hhi
            exact absurd (CAP_ge.trans_lt hhi) (not_lt.2 (pow_le (by omega)))
        · right; omega
      · intro n hn
        exact (pow_le (by omega)).trans (hlo.trans (min_le_left _ _))

/-- The kernel's scale is the reference's. -/
theorem ksb_scale (a : EReal) : (Ideal.ofBits .f32 (ksb a) : EReal) = rsc a := by
  obtain ⟨p, h1, h2, hk, hr⟩ := scale_common a
  rw [hk, hr, ofBits_tab (by omega) (by omega)]

/-- The kernel's inverse scale, a subtraction of words, is one divided by the reference's scale. -/
theorem ksb_inv (a : EReal) : (Ideal.ofBits .f32 (IntOp.subi 2130706432#32 (ksb a)) : EReal) = Ideal.div 1 (rsc a) := by
  obtain ⟨p, h1, h2, hk, hr⟩ := scale_common a
  have : IntOp.subi 2130706432#32 (tab p) = tab (254 - p) := tab_inv ⟨p, by omega⟩
  rw [hk, hr, this, ofBits_tab (by omega) (by omega)]
  have hne : ((((2 : ℝ) ^ ((p : Int) - 127) : ℝ)) : EReal) ≠ 0 := by
    exact_mod_cast (zpow_ne_zero _ (by norm_num : (2 : ℝ) ≠ 0))
  unfold Ideal.div
  rw [if_neg hne, one_mul, ← EReal.coe_inv]
  refine EReal.coe_eq_coe_iff.2 ?_
  rw [← zpow_neg, show ((254 - p : Nat) : Int) - 127 = -((p : Int) - 127) by omega]

/-- The value the scale is taken of: the largest magnitude of a row of the state, over the codes' largest value. -/
def amax (v : Fin 256 → EReal) : EReal :=
  Finset.fold max (Ideal.ofBits FTy.f32 4286578688#32) (fun x => FloatOps.absf (F := Ideal) (φ := .f32) (v x)) Finset.univ
    * Ideal.ofBits FTy.f32 991054117#32

/-- The stored code of a state value, under a scale. -/
def code (v s : EReal) : EReal :=
  min (Ideal.ofBits FTy.f32 1138753536#32) (max (Ideal.ofBits FTy.f32 3286237184#32) (v * s))

end Cert.Own
-- ==== Proof.Own.KerRow.lean ====
module

public import proofs.«01_k».proof.Proof.Gen.KernelIdeal.Skeleton
public import proofs.«01_k».proof.Proof.Own.Quant
public import Idealize.ShloMosaic.Lib.Pointwise

@[expose] public section

set_option maxRecDepth 16384

noncomputable section

namespace Cert.Own

open Idealize.ShloMosaic Idealize.ShloMosaic.TcCoe Idealize.SL.Sem
open Cert.KernelIdeal Cert.KernelIdeal.Gen

/-- The kernel's scale words of a head's state. -/
theorem words_at (V : FVec Ideal S64x256 .f32) (p : Fin 64) :
    k0_pay169 (F := Ideal) V (ix2 p 0) = ksb (amax fun n => V (ix2 p n)) := by
  pointwise [k0_pay169]
  rfl

/-- The kernel's codes of a head's state. -/
theorem codes_at (V : FVec Ideal S64x256 .f32) (p : Fin 64) (n : Fin 256) :
    k0_pay170 (F := Ideal) V (ix4 0 0 p n) =
      code (V (ix2 p n)) (Ideal.ofBits .f32 (IntOp.subi 2130706432#32 (k0_pay169 (F := Ideal) V (ix2 p 0)))) := by
  pointwise [k0_pay170]
  rfl

/-- A head's state: its codes times a column of scales plus the local state. -/
def rowst (r : ℕ) (h : S64x128.Slices ![0, r] S64x1) (S : FVec Ideal S64x128 .f32) (a : FVec Ideal S1x1x64x256 .fp8e4m3)
    (b : FVec Ideal S1x1x64x256 .f32) : FVec Ideal S64x256 .f32 :=
  addf (mulf (extf .f32 (shapeCast S64x256 a shapeCasts_S1x1x64x256_S64x256) bitsLt_fp8e4m3_f32)
    (broadcastTo S64x256 (extractStridedSlice S64x1 ![0, r] S h) broadcasts_S64x1_S64x256))
    (shapeCast S64x256 b shapeCasts_S1x1x64x256_S64x256)

/-- The state of a head at an index: code times scale plus local state. -/
theorem rowst_at (r : ℕ) (hr : r < 128) (h : S64x128.Slices ![0, r] S64x1) (S : FVec Ideal S64x128 .f32) (a : FVec Ideal S1x1x64x256 .fp8e4m3)
    (b : FVec Ideal S1x1x64x256 .f32) (p : Fin 64) (n : Fin 256) :
    rowst r h S a b (ix2 p n) = a (ix4 0 0 p n) * S (ix2 p ⟨r, hr⟩) + b (ix4 0 0 p n) := by
  pointwise [rowst]

/-- One lane of the table of scale words is set. -/
def upd (k : BitVec 32) (col : IVec S64x1 32) (prev : IVec S64x128 32) : IVec S64x128 32 :=
  select (cmpi .eq (iota .tc S64x128 32 [1] iota_S64x128_d1_w32) (broadcast S64x128 k))
    (broadcastTo S64x128 (shapeCast S64x1 col shapeCasts_S64x1_S64x1) broadcasts_S64x1_S64x128) prev

/-- An update of lane `k` puts the new column there and keeps the other lanes. -/
theorem upd_at (k : ℕ) (hk : k < 16) (col : IVec S64x1 32) (prev : IVec S64x128 32) (p : Fin 64) (l : Fin 128) :
    upd (BitVec.ofNat 32 k) col prev (ix2 p l) = if l.val = k then col (ix2 p 0) else prev (ix2 p l) := by
  have e : (BitVec.ofNat 32 l.val = BitVec.ofNat 32 k) ↔ l.val = k := by
    constructor
    · intro h; have := congrArg BitVec.toNat h; simp at this; omega
    · rintro h; rw [h]
  pointwise [upd]
  unfold Scalar.select IntOp.cmpi
  by_cases h : l.val = k
  · rw [if_pos h, h]; simp
  · have e' : (BitVec.ofNat 32 l.val == BitVec.ofNat 32 k) = false := by
      rw [beq_eq_false_iff_ne, ne_eq, e]; exact h
    rw [if_neg h, e']; rfl

/-- The scales of a group: the table's words as numbers, heads first. -/
def scalesOf (T : IVec S64x128 32) : FVec Ideal S1x16x64 .f32 :=
  k0_pay1 (transpose S128x64 [1, 0] (bitcastToFloat .f32 T : FVec Ideal S64x128 .f32) transposes_S64x128_p1_0_S128x64)

/-- The stored scales are the table's words read as floats, transposed. -/
theorem scalesOf_at (T : IVec S64x128 32) (r : Fin 16) (p : Fin 64) :
    scalesOf T (ix3 0 r p) = Ideal.ofBits .f32 (T (ix2 p ⟨r.val, by omega⟩)) := by
  pointwise [scalesOf, k0_pay1]

/-- The lanes a column table is rolled by for head group `g`. -/
def shift (g : ℕ) : BitVec 32 :=
  Scalar.select
    (Scalar.andi
      (Scalar.xori (Scalar.cmpi CmpIPredicate.slt (Scalar.remsi (Scalar.subi (128#32) (Scalar.muli (16#32) (BitVec.ofNat 32 g))) 128#32) 0#32) 0#1)
      (Scalar.cmpi CmpIPredicate.ne (Scalar.remsi (Scalar.subi (128#32) (Scalar.muli (16#32) (BitVec.ofNat 32 g))) 128#32) 0#32))
    (Scalar.addi (Scalar.remsi (Scalar.subi (128#32) (Scalar.muli (16#32) (BitVec.ofNat 32 g))) 128#32) 128#32)
    (Scalar.remsi (Scalar.subi (128#32) (Scalar.muli (16#32) (BitVec.ofNat 32 g))) 128#32)

/-- The roll's amount for group `g` is `128 - 16 g`, modulo the 128 lanes. -/
theorem shift_eq : ∀ g : Fin 8, (shift g.val).toNat % 128 = (128 - 16 * g.val) % 128 := by
  decide +kernel

/-- The rolled column table: lane `l` of group `g` holds the column of head `16 g + l`. -/
theorem rot_at (g : ℕ) (hg : g < 8) (Z : FVec Ideal S64x128 .f32) (p : Fin 64) (l : Fin 128) (hl : l.val < 16) :
    k0_pay149 (F := Ideal) (shift g) Z (ix2 p l) = Z (ix2 p ⟨16 * g + l.val, by omega⟩) := by
  have e := shift_eq ⟨g, hg⟩
  pointwise [k0_pay149]
  congr 2
  apply Fin.ext
  simp only [e]
  omega

end Cert.Own
-- ==== Proof.Own.Window.lean ====
module

public import Idealize.ShloMosaic.Lib.Pointwise

@[expose] public section

set_option maxRecDepth 16384

noncomputable section

namespace Cert.Own

open Idealize.ShloMosaic Idealize.ShloMosaic.TcCoe Idealize.SL.Sem

/-- The sum of the `L` values of a column that end at row `r`. -/
def win (G : ℕ → EReal) (L r : ℕ) : EReal := ∑ k ∈ Finset.range L, if k ≤ r then G (r - k) else 0

/-- The sum over a window of `2 L` entries is the sum over its last `L` plus that over the `L` before. -/
theorem win_double (G : ℕ → EReal) (L r : ℕ) : win G (L + L) r = win G L r + (if L ≤ r then win G L (r - L) else 0) := by
  unfold win
  rw [Finset.sum_range_add]
  congr 1
  split
  · rename_i h
    refine Finset.sum_congr rfl fun k _ => ?_
    by_cases hk : L + k ≤ r
    · rw [if_pos hk, if_pos (by omega), Nat.sub_sub]
    · rw [if_neg hk, if_neg (by omega)]
  · rename_i h
    exact Finset.sum_eq_zero fun k _ => if_neg (by omega)

/-- A left fold of additions is the start plus the sum. -/
theorem foldl_add_sum {N : ℕ} (f : Fin N → EReal) (z : EReal) : (List.finRange N).foldl (fun r n => r + f n) z = z + ∑ n : Fin N, f n := by
  rw [Fin.sum_univ_def]
  generalize List.finRange N = l
  induction l generalizing z with
  | nil => simp
  | cons a l ih => rw [List.foldl_cons, ih, List.map_cons, List.sum_cons, add_assoc]

/-- The host's running sum along the middle axis: the sum of the values up to a row. -/
theorem cumsum_at (h : (⟨3, ![3, 512, 128]⟩ : Shape).ReduceWindows (![1, 512, 1] : Fin 3 → Nat) ![1, 1, 1] ![0, 511, 0] ![0, 0, 0] ⟨3, ![3, 512, 128]⟩)
    (x : (⟨3, ![3, 512, 128]⟩ : Shape).Idx → EReal) (b : Fin 3) (r : Fin 512) (d : Fin 128) :
    Ideal.hostReduceWindowAdd (![1, 512, 1] : Fin 3 → Nat) ![1, 1, 1] ![0, 511, 0] ![0, 0, 0] h x 0 (ix3 b r d) =
      win (fun i => if hi : i < 512 then x (ix3 b ⟨i, hi⟩ d) else 0) 512 r.val := by
  unfold Ideal.hostReduceWindowAdd Host.reduceWindow
  dsimp only
  rw [foldl_add_sum, zero_add]
  rw [← Equiv.sum_comp (Shape.rowMajor (s := ⟨3, ![1, 512, 1]⟩))]
  simp only [Equiv.symm_apply_apply]
  rw [sum_idx3]
  have key : ∀ (a : Fin 1) (k : Fin 512) (e : Fin 1),
      (if hin : ∀ a_1 : Fin 3,
          (![0, 511, 0] : Fin 3 → ℕ) a_1 ≤ (ix3 b r d (Fin.cast h.1.symm a_1)).val * (![1, 1, 1] : Fin 3 → ℕ) a_1 + (ix3 a k e a_1).val ∧
            (ix3 b r d (Fin.cast h.1.symm a_1)).val * (![1, 1, 1] : Fin 3 → ℕ) a_1 + (ix3 a k e a_1).val - (![0, 511, 0] : Fin 3 → ℕ) a_1 <
              (![3, 512, 128] : Fin 3 → ℕ) a_1
        then x fun a_1 => ⟨(ix3 b r d (Fin.cast h.1.symm a_1)).val * (![1, 1, 1] : Fin 3 → ℕ) a_1 + (ix3 a k e a_1).val - (![0, 511, 0] : Fin 3 → ℕ) a_1, (hin a_1).2⟩
        else (0 : EReal)) =
      (fun k : ℕ => if 511 - k ≤ r.val then (fun i => if hi : i < 512 then x (ix3 b ⟨i, hi⟩ d) else 0) (r.val - (511 - k)) else 0) k.val := by
    intro a k e
    have ha : a = 0 := Subsingleton.elim _ _
    have he : e = 0 := Subsingleton.elim _ _
    subst ha he
    dsimp only
    by_cases hk : 511 - k.val ≤ r.val
    · rw [if_pos hk, dif_pos (show r.val - (511 - k.val) < 512 by omega), dif_pos]
      · congr 1
        funext q
        apply Fin.ext
        fin_cases q
        · show b.val * 1 + 0 - 0 = b.val
          omega
        · show r.val * 1 + k.val - 511 = r.val - (511 - k.val)
          omega
        · show d.val * 1 + 0 - 0 = d.val
          omega
      · intro q
        fin_cases q
        · show 0 ≤ b.val * 1 + 0 ∧ b.val * 1 + 0 - 0 < 3
          omega
        · show 511 ≤ r.val * 1 + k.val ∧ r.val * 1 + k.val - 511 < 512
          omega
        · show 0 ≤ d.val * 1 + 0 ∧ d.val * 1 + 0 - 0 < 128
          omega
    · rw [if_neg hk, dif_neg]
      intro hin
      have h1 : 511 ≤ r.val * 1 + k.val := (hin 1).1
      omega
  refine (Finset.sum_congr rfl fun a _ => Finset.sum_congr rfl fun k _ => Finset.sum_congr rfl fun e _ => key a k e).trans ?_
  rw [Fin.sum_univ_one]
  simp only [Fin.sum_univ_one]
  rw [Fin.sum_univ_eq_sum_range (fun k : ℕ => if 511 - k ≤ r.val then (fun i => if hi : i < 512 then x (ix3 b ⟨i, hi⟩ d) else 0) (r.val - (511 - k)) else 0) 512]
  exact Finset.sum_range_reflect (fun k : ℕ => if k ≤ r.val then (fun i => if hi : i < 512 then x (ix3 b ⟨i, hi⟩ d) else 0) (r.val - k) else 0) 512

end Cert.Own
-- ==== Proof.Own.Spec.lean ====
/- The three results as functions of the arguments, an element at a time. -/
module

public import proofs.«01_k».proof.Proof.Own.Quant
public import proofs.«01_k».proof.Proof.Own.Window

@[expose] public section

set_option maxRecDepth 16384

noncomputable section

namespace Cert.Own

open Idealize.ShloMosaic Idealize.ShloMosaic.TcCoe Idealize.SL.Sem

/-- The decay of a head at a token: the exponential of the running sum of its gated steps. -/
def dec (dt : (⟨3, ![3, 512, 128]⟩ : Shape).Idx → EReal) (al : (⟨1, ![128]⟩ : Shape).Idx → EReal) (b : Fin 3) (r : ℕ) (h : Fin 128) : EReal :=
  Ideal.exp (win (fun i => if hi : i < 512 then dt (ix3 b ⟨i, hi⟩ h) * -(Ideal.exp (al (ix1 h))) else 0) 512 r)

/-- A row of the new state: the decayed old state plus the local state. -/
def stRow (h0 : (⟨4, ![3, 128, 64, 256]⟩ : Shape).Idx → EReal) (h0s : (⟨3, ![3, 128, 64]⟩ : Shape).Idx → EReal)
    (hl : (⟨4, ![3, 128, 64, 256]⟩ : Shape).Idx → EReal) (fd : EReal) (b : Fin 3) (h : Fin 128) (p : Fin 64) : Fin 256 → EReal :=
  fun n => fd * (h0 (ix4 b h p n) * h0s (ix3 b h p)) + hl (ix4 b h p n)

/-- The code of an entry of a state row, under the row's scale. -/
def codeOf (v : Fin 256 → EReal) (n : Fin 256) : EReal := code (v n) (Ideal.div 1 (rsc (amax v)))

/-- The new state's codes. -/
def codesR (dt : (⟨3, ![3, 512, 128]⟩ : Shape).Idx → EReal) (al : (⟨1, ![128]⟩ : Shape).Idx → EReal)
    (h0 : (⟨4, ![3, 128, 64, 256]⟩ : Shape).Idx → EReal) (h0s : (⟨3, ![3, 128, 64]⟩ : Shape).Idx → EReal)
    (hl : (⟨4, ![3, 128, 64, 256]⟩ : Shape).Idx → EReal) (i : (⟨4, ![3, 128, 64, 256]⟩ : Shape).Idx) : EReal :=
  codeOf (stRow h0 h0s hl (dec dt al (i 0) 511 (i 1)) (i 0) (i 1) (i 2)) (i 3)

/-- The new state's scales. -/
def scalesR (dt : (⟨3, ![3, 512, 128]⟩ : Shape).Idx → EReal) (al : (⟨1, ![128]⟩ : Shape).Idx → EReal)
    (h0 : (⟨4, ![3, 128, 64, 256]⟩ : Shape).Idx → EReal) (h0s : (⟨3, ![3, 128, 64]⟩ : Shape).Idx → EReal)
    (hl : (⟨4, ![3, 128, 64, 256]⟩ : Shape).Idx → EReal) (i : (⟨3, ![3, 128, 64]⟩ : Shape).Idx) : EReal :=
  rsc (amax (stRow h0 h0s hl (dec dt al (i 0) 511 (i 1)) (i 0) (i 1) (i 2)))

/-- The new outputs: the input plus the codes' product with the head's state codes, times the code scale, the state scale and the head's decay. -/
def yR (y : (⟨3, ![3, 512, 8192]⟩ : Shape).Idx → EReal) (cc : (⟨4, ![3, 512, 8, 256]⟩ : Shape).Idx → EReal) (cs : (⟨3, ![3, 512, 8]⟩ : Shape).Idx → EReal)
    (dt : (⟨3, ![3, 512, 128]⟩ : Shape).Idx → EReal) (al : (⟨1, ![128]⟩ : Shape).Idx → EReal)
    (h0 : (⟨4, ![3, 128, 64, 256]⟩ : Shape).Idx → EReal) (h0s : (⟨3, ![3, 128, 64]⟩ : Shape).Idx → EReal) (b : Fin 3) (q : Fin 512) (J : Fin 8192) : EReal :=
  y (ix3 b q J) + (∑ n : Fin 256, (h0 (ix4 b ⟨J.val / 64, by omega⟩ ⟨J.val % 64, by omega⟩ n) * cc (ix4 b q ⟨J.val / 1024, by omega⟩ n) : EReal))
    * cs (ix3 b q ⟨J.val / 1024, by omega⟩) * h0s (ix3 b ⟨J.val / 64, by omega⟩ ⟨J.val % 64, by omega⟩) * dec dt al b q.val ⟨J.val / 64, by omega⟩

end Cert.Own
-- ==== Proof.Own.KerState.lean ====
module

public import proofs.«01_k».proof.Proof.Gen.KernelIdeal.Value
public import proofs.«01_k».proof.Proof.Own.KerRow
public import proofs.«01_k».proof.Proof.Own.Spec
public import Idealize.ShloMosaic.Lib.Pointwise
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Own

open Idealize.ShloMosaic Idealize.ShloMosaic.TcCoe Idealize.SL.Sem
open Cert.KernelIdeal Cert.KernelIdeal.Gen
variable (m : (ℓ : Loc nD τ sig) → Buf (Elt Ideal) ℓ)

/-- The blocks of the kernel's windows at a grid point: the batch entry is `t / 8` and the head group `t % 8`. -/
theorem idx : ∀ t : Fin cfg0.N,
    win0_0.index t = ![t.val / 8, 0, t.val % 8] ∧ win0_1.index t = ![t.val / 8, 0, 0, 0] ∧ win0_2.index t = ![t.val / 8, 0, 0]
    ∧ win0_3.index t = ![t.val / 8, 0, 0] ∧ win0_4.index t = ![0, 0] ∧ win0_5.index t = ![t.val / 8, t.val % 8, 0, 0]
    ∧ win0_6.index t = ![t.val / 8, 0, 0] ∧ win0_7.index t = ![t.val / 8, t.val % 8, 0, 0] ∧ win0_8.index t = ![t.val / 8, 0, t.val % 8]
    ∧ win0_9.index t = ![t.val / 8, t.val % 8, 0, 0] ∧ win0_10.index t = ![t.val / 8, t.val % 8, 0] :=
  (by decide +kernel : ∀ t : Fin grid0.N, _)

/-- The second grid coordinate of point `t` is `t % 8`. -/
theorem group : ∀ t : Fin cfg0.N, (grid0.coords t 1).val = t.val % 8 := (by decide +kernel : ∀ t : Fin grid0.N, _)

/-- The running decay of a batch entry, as the entry's first point computes it. -/
abbrev DEC (c : Dev nD) (t : Fin cfg0.N) : FVec Ideal S512x128 .f32 :=
  k0_pay5 (iota Kind.tc S512x128 32 [0] iota_S512x128_d0_w32) (k0_pay3 (iblk m c 4 t) (iblk m c 3 t)) (k0_pay4 (iblk m c 4 t) (iblk m c 3 t))

/-- The table of state scales a batch entry's first point keeps. -/
abbrev COL (c : Dev nD) (t : Fin cfg0.N) : FVec Ideal S64x128 .f32 := k0_pay101 (DEC m c t) (k0_pay30 (iblk m c 6 t))

/-- A point that opens no batch entry leaves the kept state scales as the point before left them. -/
theorem col_B (c : Dev nD) (t : Fin cfg0.N) (h0 : ¬t.val % 24 = 0) (h1 : ¬t.val % 8 = 0) :
    (outsAt0 m c t.val t.isLt).2.2.2.2.2.2.2.2.2 = (outsAt0 m c (t.val - 1) (by omega)).2.2.2.2.2.2.2.2.2 := by
  rw [outsAt0_B m c t h0 h1]
  rfl

/-- A batch entry's first point fills the kept state scales with the entry's. -/
theorem col_first (c : Dev nD) (t : Fin cfg0.N) (h1 : t.val % 8 = 0) :
    (outsAt0 m c t.val t.isLt).2.2.2.2.2.2.2.2.2 = COL m c t := by
  funext y
  by_cases h0 : t.val % 24 = 0
  · rw [outsAt0_A m c t h0 h1]
    frame_open
    simp (disch := decide) only [↓ View.readCov_skip, ↓ View.readCov_cons_toLoadRect, ↓ View.readCov_fill]
    frame_out
  · rw [outsAt0_C m c t h0 h1]
    frame_open
    simp (disch := decide) only [↓ View.readCov_skip, ↓ View.readCov_cons_toLoadRect, ↓ View.readCov_fill]
    frame_out

/-- At every point the kept state scales are those of the batch entry's first point. -/
theorem col_held (c : Dev nD) (t : Fin cfg0.N) :
    (outsAt0 m c t.val t.isLt).2.2.2.2.2.2.2.2.2 = COL m c ⟨8 * (t.val / 8), Pipeline.run_start_lt t⟩ :=
  Pipeline.eq_of_write_hold (fun n h => (outsAt0 m c n h).2.2.2.2.2.2.2.2.2) 8 (COL m c) (fun t h => col_first m c t h)
    (fun t h => col_B m c t (by omega) h) t

/-- The state of a head, from a column of scales: codes times scale plus the local state. -/
def stOf (a b : Fin 256 → EReal) (s : EReal) : Fin 256 → EReal := fun n => a n * s + b n

/-- The codes of head `r` of a group, from rows that agree with the group's blocks. -/
theorem code_piece (r : ℕ) (hr : r < 16) (g : ℕ) (hg : g < 8) (hs : S64x128.Slices ![0, r] S64x1) (Z : FVec Ideal S64x128 .f32)
    (a : FVec Ideal S1x1x64x256 .fp8e4m3) (b : FVec Ideal S1x1x64x256 .f32) (x : S1x1x64x256.Idx)
    (X5 : FVec Ideal S1x16x64x256 .fp8e4m3) (X7 : FVec Ideal S1x16x64x256 .f32)
    (ha : ∀ p n, a (ix4 0 0 p n) = X5 (ix4 0 ⟨r, hr⟩ p n)) (hb : ∀ p n, b (ix4 0 0 p n) = X7 (ix4 0 ⟨r, hr⟩ p n)) (y : S1x16x64x256.Idx)
    (h1 : (y 1 : ℕ) = r + (x 1 : ℕ)) (h2 : (y 2 : ℕ) = (x 2 : ℕ)) (h3 : (y 3 : ℕ) = (x 3 : ℕ)) :
    k0_pay170 (F := Ideal) (rowst r hs (k0_pay149 (shift g) Z) a b) x =
      codeOf (stOf (fun n => X5 (ix4 0 (y 1) (y 2) n)) (fun n => X7 (ix4 0 (y 1) (y 2) n)) (Z (ix2 (y 2) ⟨16 * g + (y 1).val, by have := (y 1).isLt; change _ < 16 at this; omega⟩))) (y 3) := by
  obtain ⟨p, n, rfl⟩ : ∃ p n, x = ix4 0 0 p n := ⟨x 2, x 3, by funext q; fin_cases q <;> first | rfl | exact Subsingleton.elim (α := Fin 1) _ _⟩
  obtain ⟨q, r', p', n', rfl⟩ : ∃ q r' p' n', y = ix4 q r' p' n' := ⟨y 0, y 1, y 2, y 3, by funext q; fin_cases q <;> rfl⟩
  obtain rfl : p' = p := Fin.ext h2
  obtain rfl : n' = n := Fin.ext h3
  obtain rfl : r' = ⟨r, hr⟩ := Fin.ext h1
  have hv : ∀ k, rowst r hs (k0_pay149 (shift g) Z) a b (ix2 p' k) =
      stOf (fun n => X5 (ix4 0 ⟨r, hr⟩ p' n)) (fun n => X7 (ix4 0 ⟨r, hr⟩ p' n)) (Z (ix2 p' ⟨16 * g + r, by omega⟩)) k := fun k => by
    rw [rowst_at r (by omega), rot_at g hg Z p' ⟨r, by omega⟩ hr, ha, hb]
    rfl
  rw [codes_at, words_at, ksb_inv, hv, show (fun k => rowst r hs (k0_pay149 (shift g) Z) a b (ix2 p' k)) = _ from funext hv]
  rfl

/-- A load of one head's rows out of a block, at an index. -/
theorem ld_row {e : EltTy} (X : S1x16x64x256.Idx → Elt Ideal e) (r : ℕ) (hr : r < 16) (inb) (x : S1x1x64x256.Idx) (p : Fin 64) (n : Fin 256) (h : x = ix4 0 0 p n) :
    View.ld X (Rect.unit ![0, r, 0, 0] ![1, 1, 64, 256] inb) x = X (ix4 0 ⟨r, hr⟩ p n) := by
  subst h
  refine View.ld_unit_apply_of X _ _ inb _ _ fun a => ?_
  fin_cases a <;> simp

/-- The group of a point is one of eight. -/
theorem group_lt (t : Fin cfg0.N) : (grid0.coords t 1).val < 8 := by have := group t; omega

/-- The codes a group of heads stores, from its state codes, its local states and the kept state scales. -/
def codesF (g : ℕ) (hg : g < 8) (X5 : FVec Ideal S1x16x64x256 .fp8e4m3) (X7 : FVec Ideal S1x16x64x256 .f32) (Z : FVec Ideal S64x128 .f32)
    (y : S1x16x64x256.Idx) : EReal :=
  codeOf (stOf (fun n => X5 (ix4 0 (y 1) (y 2) n)) (fun n => X7 (ix4 0 (y 1) (y 2) n))
    (Z (ix2 (y 2) ⟨16 * g + (y 1).val, by have := (y 1).isLt; change _ < 16 at this; omega⟩))) (y 3)

/-- The scales a group of heads stores. -/
def scalesF (g : ℕ) (hg : g < 8) (X5 : FVec Ideal S1x16x64x256 .fp8e4m3) (X7 : FVec Ideal S1x16x64x256 .f32) (Z : FVec Ideal S64x128 .f32)
    (y : S1x16x64.Idx) : EReal :=
  rsc (amax (stOf (fun n => X5 (ix4 0 (y 1) (y 2) n)) (fun n => X7 (ix4 0 (y 1) (y 2) n))
    (Z (ix2 (y 2) ⟨16 * g + (y 1).val, by have := (y 1).isLt; change _ < 16 at this; omega⟩))))

/-- The table's first `n` lanes hold the words of the scales of heads below `n`. -/
def Holds (S : S1x16x64.Idx → EReal) (n : ℕ) (T : IVec S64x128 32) : Prop :=
  ∀ (p : Fin 64) (r : Fin 16), r.val < n → Ideal.ofBits .f32 (T (ix2 p ⟨r.val, by omega⟩)) = S (ix3 0 r p)

/-- Any table holds the scales of no head. -/
theorem holds_zero (S : S1x16x64.Idx → EReal) (T : IVec S64x128 32) : Holds S 0 T := fun _ _ h => absurd h (by omega)

/-- An update of lane `n` by the words of head `n` adds this head to those a table holds. -/
theorem holds_step (S : S1x16x64.Idx → EReal) (n : ℕ) (hn : n < 16) (col : IVec S64x1 32) (T : IVec S64x128 32)
    (hc : ∀ p, Ideal.ofBits .f32 (col (ix2 p 0)) = S (ix3 0 ⟨n, hn⟩ p)) (hT : Holds S n T) : Holds S (n + 1) (upd (BitVec.ofNat 32 n) col T) := by
  intro p r hr
  rw [upd_at n hn]
  split
  · rename_i h
    obtain rfl : r = ⟨n, hn⟩ := Fin.ext h
    exact hc p
  · rename_i h
    exact hT p r (by have : r.val ≠ n := h; omega)

/-- A table that holds the scales of all 16 heads is stored as those scales. -/
theorem holds_scales (S : S1x16x64.Idx → EReal) (T : IVec S64x128 32) (h : Holds S 16 T) (y : S1x16x64.Idx) : scalesOf T y = S y := by
  obtain ⟨r, p, rfl⟩ : ∃ r p, y = ix3 0 r p := ⟨y 1, y 2, by funext q; fin_cases q <;> first | rfl | exact Subsingleton.elim (α := Fin 1) _ _⟩
  rw [scalesOf_at]
  exact h p r r.isLt

/-- The words of head `r`'s scales, from rows that agree with the group's blocks, read as floats. -/
theorem scale_piece (r : ℕ) (hr : r < 16) (g : ℕ) (hg : g < 8) (hs : S64x128.Slices ![0, r] S64x1) (Z : FVec Ideal S64x128 .f32)
    (a : FVec Ideal S1x1x64x256 .fp8e4m3) (b : FVec Ideal S1x1x64x256 .f32)
    (X5 : FVec Ideal S1x16x64x256 .fp8e4m3) (X7 : FVec Ideal S1x16x64x256 .f32)
    (ha : ∀ p n, a (ix4 0 0 p n) = X5 (ix4 0 ⟨r, hr⟩ p n)) (hb : ∀ p n, b (ix4 0 0 p n) = X7 (ix4 0 ⟨r, hr⟩ p n)) (p : Fin 64) :
    Ideal.ofBits .f32 (k0_pay169 (F := Ideal) (rowst r hs (k0_pay149 (shift g) Z) a b) (ix2 p 0)) = scalesF g hg X5 X7 Z (ix3 0 ⟨r, hr⟩ p) := by
  rw [words_at, ksb_scale]
  unfold scalesF
  congr 2
  funext n
  rw [rowst_at r (by omega), rot_at g hg Z p ⟨r, by omega⟩ hr, ha, hb]
  rfl

/-- The codes of one head's rows, from its loads of the two blocks, are the group's codes at those rows. -/
theorem code_ld (c : Dev nD) (t : Fin cfg0.N) (r : ℕ) (hr : r < 16) (hs : S64x128.Slices ![0, r] S64x1) (Z : FVec Ideal S64x128 .f32) (i5 i7)
    (x : S1x1x64x256.Idx) (y : S1x16x64x256.Idx) (h1 : (y 1 : ℕ) = r + (x 1 : ℕ)) (h2 : (y 2 : ℕ) = (x 2 : ℕ)) (h3 : (y 3 : ℕ) = (x 3 : ℕ)) :
    k0_pay170 (F := Ideal) (rowst r hs (k0_pay149 (shift (grid0.coords t 1).val) Z)
      (View.ld (Val := Elt Ideal) (S := S1x16x64x256) (e' := .fp8e4m3) (iblk m c 5 t) (Rect.unit (s := S1x16x64x256) ![0, r, 0, 0] S1x1x64x256.size i5))
      (View.ld (Val := Elt Ideal) (S := S1x16x64x256) (e' := .f32) (iblk m c 7 t) (Rect.unit (s := S1x16x64x256) ![0, r, 0, 0] S1x1x64x256.size i7))) x
      = codesF (grid0.coords t 1).val (group_lt t) (iblk m c 5 t) (iblk m c 7 t) Z y :=
  code_piece r hr _ (group_lt t) hs Z _ _ x (iblk m c 5 t) (iblk m c 7 t) (fun p n => ld_row _ _ _ _ _ p n rfl) (fun p n => ld_row _ _ _ _ _ p n rfl) y h1 h2 h3

/-- The words of one head's scales, from its loads of the two blocks, read as floats are the group's scales of that head. -/
theorem scale_ld (c : Dev nD) (t : Fin cfg0.N) (r : ℕ) (hr : r < 16) (hs : S64x128.Slices ![0, r] S64x1) (Z : FVec Ideal S64x128 .f32) (i5 i7) (p : Fin 64) :
    Ideal.ofBits .f32 (k0_pay169 (F := Ideal) (rowst r hs (k0_pay149 (shift (grid0.coords t 1).val) Z)
      (View.ld (Val := Elt Ideal) (S := S1x16x64x256) (e' := .fp8e4m3) (iblk m c 5 t) (Rect.unit (s := S1x16x64x256) ![0, r, 0, 0] S1x1x64x256.size i5))
      (View.ld (Val := Elt Ideal) (S := S1x16x64x256) (e' := .f32) (iblk m c 7 t) (Rect.unit (s := S1x16x64x256) ![0, r, 0, 0] S1x1x64x256.size i7))) (ix2 p 0))
      = scalesF (grid0.coords t 1).val (group_lt t) (iblk m c 5 t) (iblk m c 7 t) Z (ix3 0 ⟨r, hr⟩ p) :=
  scale_piece r hr _ (group_lt t) hs Z _ _ (iblk m c 5 t) (iblk m c 7 t) (fun p n => ld_row _ _ _ _ _ p n rfl) (fun p n => ld_row _ _ _ _ _ p n rfl) p

/-- The grid's first point stores the codes of its group. -/
theorem codes_A (c : Dev nD) (t : Fin cfg0.N) (h0 : t.val % 24 = 0) (h1 : t.val % 8 = 0) (Z) (hZ : Z = (outsAt0 m c t.val t.isLt).2.2.2.2.2.2.2.2.2) (y) :
    (outsAt0 m c t.val t.isLt).2.1 y = codesF (grid0.coords t 1).val (group_lt t) (iblk m c 5 t) (iblk m c 7 t) Z y := by
  have hg := group_lt t
  rw [col_first m c t h1] at hZ
  unfold COL DEC at hZ
  rw [outsAt0_A m c t h0 h1]
  frame_open
  simp (disch := decide) only [↓ View.readCov_skip, ↓ View.readCov_cons_toLoadRect, ↓ View.readCov_fill]
  frame_out
  rw [← hZ]
  canon_tiles x h
  all_goals exact code_ld m c t _ (by omega) _ _ _ _ x y (by omega) h2 h3

/-- A point that opens no batch entry stores the codes of its group. -/
theorem codes_B (c : Dev nD) (t : Fin cfg0.N) (h0 : ¬t.val % 24 = 0) (h1 : ¬t.val % 8 = 0) (Z) (hZ : Z = (outsAt0 m c t.val t.isLt).2.2.2.2.2.2.2.2.2) (y) :
    (outsAt0 m c t.val t.isLt).2.1 y = codesF (grid0.coords t 1).val (group_lt t) (iblk m c 5 t) (iblk m c 7 t) Z y := by
  have hg := group_lt t
  rw [col_B m c t h0 h1] at hZ
  rw [outsAt0_B m c t h0 h1]
  frame_open
  frame_out
  canon_tiles x h
  all_goals exact (code_ld m c t _ (by omega) _ _ _ _ x y (by omega) h2 h3).trans (congrArg (fun z => codesF _ hg _ _ z y) ((read_unread_whole _ _ _).trans hZ.symm))

/-- The first point of a later batch entry stores the codes of its group. -/
theorem codes_C (c : Dev nD) (t : Fin cfg0.N) (h0 : ¬t.val % 24 = 0) (h1 : t.val % 8 = 0) (Z) (hZ : Z = (outsAt0 m c t.val t.isLt).2.2.2.2.2.2.2.2.2) (y) :
    (outsAt0 m c t.val t.isLt).2.1 y = codesF (grid0.coords t 1).val (group_lt t) (iblk m c 5 t) (iblk m c 7 t) Z y := by
  have hg := group_lt t
  rw [col_first m c t h1] at hZ
  unfold COL DEC at hZ
  rw [outsAt0_C m c t h0 h1]
  frame_open
  simp (disch := decide) only [↓ View.readCov_skip, ↓ View.readCov_cons_toLoadRect, ↓ View.readCov_fill]
  frame_out
  rw [← hZ]
  canon_tiles x h
  all_goals exact code_ld m c t _ (by omega) _ _ _ _ x y (by omega) h2 h3

/-- The grid's first point stores the scales of its group. -/
theorem scales_A (c : Dev nD) (t : Fin cfg0.N) (h0 : t.val % 24 = 0) (h1 : t.val % 8 = 0) (Z) (hZ : Z = (outsAt0 m c t.val t.isLt).2.2.2.2.2.2.2.2.2) (y) :
    (outsAt0 m c t.val t.isLt).2.2.1 y = scalesF (grid0.coords t 1).val (group_lt t) (iblk m c 5 t) (iblk m c 7 t) Z y := by
  have hg := group_lt t
  rw [col_first m c t h1] at hZ
  unfold COL DEC at hZ
  rw [outsAt0_A m c t h0 h1]
  frame_open
  simp (disch := decide) only [↓ View.readCov_skip, ↓ View.readCov_cons_toLoadRect, ↓ View.readCov_fill]
  frame_out
  rw [← hZ]
  refine holds_scales (scalesF (grid0.coords t 1).val hg (iblk m c 5 t) (iblk m c 7 t) Z) _ ?_ y
  iterate 16 refine holds_step _ _ (by omega) _ _ (fun p => scale_ld m c t _ (by omega) _ _ _ _ p) ?_
  exact holds_zero _ _

/-- A point that opens no batch entry stores the scales of its group. -/
theorem scales_B (c : Dev nD) (t : Fin cfg0.N) (h0 : ¬t.val % 24 = 0) (h1 : ¬t.val % 8 = 0) (Z) (hZ : Z = (outsAt0 m c t.val t.isLt).2.2.2.2.2.2.2.2.2) (y) :
    (outsAt0 m c t.val t.isLt).2.2.1 y = scalesF (grid0.coords t 1).val (group_lt t) (iblk m c 5 t) (iblk m c 7 t) Z y := by
  have hg := group_lt t
  rw [col_B m c t h0 h1] at hZ
  rw [outsAt0_B m c t h0 h1]
  frame_open
  frame_out
  have hz := (read_unread_whole (Val := Elt Ideal) cc0_scratch7 (Memref.isWhole_whole _) _).trans hZ.symm
  refine (holds_scales (scalesF (grid0.coords t 1).val hg (iblk m c 5 t) (iblk m c 7 t) _) _ ?_ y).trans (congrArg (fun z => scalesF _ hg _ _ z y) hz)
  iterate 16 refine holds_step _ _ (by omega) _ _ (fun p => scale_ld m c t _ (by omega) _ _ _ _ p) ?_
  exact holds_zero _ _

/-- The first point of a later batch entry stores the scales of its group. -/
theorem scales_C (c : Dev nD) (t : Fin cfg0.N) (h0 : ¬t.val % 24 = 0) (h1 : t.val % 8 = 0) (Z) (hZ : Z = (outsAt0 m c t.val t.isLt).2.2.2.2.2.2.2.2.2) (y) :
    (outsAt0 m c t.val t.isLt).2.2.1 y = scalesF (grid0.coords t 1).val (group_lt t) (iblk m c 5 t) (iblk m c 7 t) Z y := by
  have hg := group_lt t
  rw [col_first m c t h1] at hZ
  unfold COL DEC at hZ
  rw [outsAt0_C m c t h0 h1]
  frame_open
  simp (disch := decide) only [↓ View.readCov_skip, ↓ View.readCov_cons_toLoadRect, ↓ View.readCov_fill]
  frame_out
  rw [← hZ]
  refine holds_scales (scalesF (grid0.coords t 1).val hg (iblk m c 5 t) (iblk m c 7 t) Z) _ ?_ y
  iterate 16 refine holds_step _ _ (by omega) _ _ (fun p => scale_ld m c t _ (by omega) _ _ _ _ p) ?_
  exact holds_zero _ _

/-- The codes a point stores, over the kept state scales. -/
theorem codes_out (c : Dev nD) (t : Fin cfg0.N) (y) :
    (outsAt0 m c t.val t.isLt).2.1 y = codesF (grid0.coords t 1).val (group_lt t) (iblk m c 5 t) (iblk m c 7 t) (COL m c ⟨8 * (t.val / 8), Pipeline.run_start_lt t⟩) y := by
  have hZ := (col_held m c t).symm
  by_cases h1 : t.val % 8 = 0
  · by_cases h0 : t.val % 24 = 0
    · exact codes_A m c t h0 h1 _ hZ y
    · exact codes_C m c t h0 h1 _ hZ y
  · exact codes_B m c t (by omega) h1 _ hZ y

/-- The scales a point stores, over the kept state scales. -/
theorem scales_out (c : Dev nD) (t : Fin cfg0.N) (y) :
    (outsAt0 m c t.val t.isLt).2.2.1 y = scalesF (grid0.coords t 1).val (group_lt t) (iblk m c 5 t) (iblk m c 7 t) (COL m c ⟨8 * (t.val / 8), Pipeline.run_start_lt t⟩) y := by
  have hZ := (col_held m c t).symm
  by_cases h1 : t.val % 8 = 0
  · by_cases h0 : t.val % 24 = 0
    · exact scales_A m c t h0 h1 _ hZ y
    · exact scales_C m c t h0 h1 _ hZ y
  · exact scales_B m c t (by omega) h1 _ hZ y

end Cert.Own
-- ==== Proof.Own.KerScan.lean ====
module

public import proofs.«01_k».proof.Proof.Gen.KernelIdeal.Skeleton
public import proofs.«01_k».proof.Proof.Own.Window
public import Idealize.ShloMosaic.Lib.Pointwise

@[expose] public section

set_option maxRecDepth 16384

noncomputable section

namespace Cert.Own

open Idealize.ShloMosaic Idealize.ShloMosaic.TcCoe Idealize.SL.Sem
open Cert.KernelIdeal Cert.KernelIdeal.Gen

/-- One step of the running sum: each row takes in the row `L` before it. -/
def hop (L : BitVec 32) (x : FVec Ideal S512x128 .f32) : FVec Ideal S512x128 .f32 :=
  addf x (select (cmpi .sge (iota Kind.tc S512x128 32 [0] iota_S512x128_d0_w32) (broadcast S512x128 L))
    (dynamicRotate 0 L none x rotates_S512x128_d0) (broadcast S512x128 (Scalar.ofBits .f32 0x00000000#32)))

/-- The signed comparison of small words is that of numbers. -/
theorem sle_ofNat (a b : ℕ) (ha : a < 2 ^ 31) (hb : b < 2 ^ 31) : (BitVec.ofNat 32 b).sle (BitVec.ofNat 32 a) = decide (b ≤ a) := by
  have e : ∀ n, n < 2 ^ 31 → (BitVec.ofNat 32 n).toInt = n := fun n hn => by
    have h : (BitVec.ofNat 32 n).toNat = n := by rw [BitVec.toNat_ofNat]; exact Nat.mod_eq_of_lt (by omega)
    rw [BitVec.toInt_eq_toNat_of_lt (by rw [h]; omega), h]
  rw [BitVec.sle_eq_decide, e a ha, e b hb, decide_eq_decide]
  omega

/-- One step of the running sum adds the entry `L` rows above, where there is one. -/
theorem hop_at (L : ℕ) (hL : L < 512) (x : FVec Ideal S512x128 .f32) (r : Fin 512) (h : Fin 128) :
    hop (BitVec.ofNat 32 L) x (ix2 r h) = (x (ix2 r h) + (if hr : L ≤ r.val then x (ix2 ⟨r.val - L, by omega⟩ h) else 0) : EReal) := by
  have e : (BitVec.ofNat 32 L).toNat = L := by rw [BitVec.toNat_ofNat]; exact Nat.mod_eq_of_lt (by omega)
  have hs := sle_ofNat r.val L (by omega) (by omega)
  pointwise [hop]
  congr 1
  unfold Scalar.select IntOp.cmpi
  dsimp only
  rw [hs]
  by_cases hr : L ≤ r.val
  · rw [dif_pos hr, decide_eq_true hr, if_pos (by rfl)]
    congr 2
    apply Fin.ext
    simp only [e]
    omega
  · rw [dif_neg hr, decide_eq_false hr, if_neg (by decide)]

/-- One step takes sums over windows of `L` rows to sums over windows of `2 L` rows. -/
theorem hop_win (G : ℕ → EReal) (L : ℕ) (hL : L < 512) (x : FVec Ideal S512x128 .f32) (h : Fin 128) (hx : ∀ r : Fin 512, x (ix2 r h) = win G L r.val)
    (r : Fin 512) : hop (BitVec.ofNat 32 L) x (ix2 r h) = win G (L + L) r.val := by
  rw [hop_at L hL, win_double, hx]
  congr 1
  split
  · exact hx _
  · rfl

/-- The gated step of a head at a token. -/
def gated (al : FVec Ideal S1x128 .f32) (dt : FVec Ideal S1x512x128 .f32) : FVec Ideal S512x128 .f32 :=
  mulf (shapeCast S512x128 dt shapeCasts_S1x512x128_S512x128)
    (broadcastTo S512x128 (subf (broadcast S1x128 (Scalar.ofBits .f32 0x00000000#32)) (exp (shapeCast S1x128 al shapeCasts_S1x128_S1x128))) broadcasts_S1x128_S512x128)

/-- The step of the decay's logarithm: `dt` times minus the exponential of `a_log`. -/
theorem gated_at (al : FVec Ideal S1x128 .f32) (dt : FVec Ideal S1x512x128 .f32) (r : Fin 512) (h : Fin 128) :
    gated al dt (ix2 r h) = (dt (ix3 0 r h) * -(Ideal.exp (al (ix2 0 h))) : EReal) := by
  pointwise [gated]
  rw [zero_sub]

/-- The kernel's decay is the exponential of nine steps of the running sum. -/
theorem scan_hops (al : FVec Ideal S1x128 .f32) (dt : FVec Ideal S1x512x128 .f32) :
    k0_pay5 (F := Ideal) (iota Kind.tc S512x128 32 [0] iota_S512x128_d0_w32) (k0_pay3 al dt) (k0_pay4 al dt) =
      exp (hop 256#32 (hop 128#32 (hop 64#32 (hop 32#32 (hop 16#32 (hop 8#32 (hop 4#32 (hop 2#32 (hop 1#32 (gated al dt))))))))))  := by
  rfl

/-- The exponential of an array, entry by entry. -/
theorem exp_at {s : Shape} (x : FVec Ideal s .f32) (j : s.Idx) : exp x j = Ideal.exp (x j) := Eq.trans rfl rfl

/-- A column of the gated steps, as a sequence (zero past the chunk). -/
def steps (al : FVec Ideal S1x128 .f32) (dt : FVec Ideal S1x512x128 .f32) (h : Fin 128) (i : ℕ) : EReal :=
  if hi : i < 512 then dt (ix3 0 ⟨i, hi⟩ h) * -(Ideal.exp (al (ix2 0 h))) else 0

/-- The steps themselves are sums over windows of one row. -/
theorem gated_win (al : FVec Ideal S1x128 .f32) (dt : FVec Ideal S1x512x128 .f32) (h : Fin 128) (r : Fin 512) :
    gated al dt (ix2 r h) = win (steps al dt h) 1 r.val := by
  unfold win
  rw [Finset.sum_range_one, if_pos (Nat.zero_le _), Nat.sub_zero, gated_at]
  unfold steps
  rw [dif_pos r.isLt]

/-- The kernel's running decay: the exponential of the sum of the gated steps up to a row. -/
theorem decay_at (al : FVec Ideal S1x128 .f32) (dt : FVec Ideal S1x512x128 .f32) (r : Fin 512) (h : Fin 128) :
    k0_pay5 (F := Ideal) (iota Kind.tc S512x128 32 [0] iota_S512x128_d0_w32) (k0_pay3 al dt) (k0_pay4 al dt) (ix2 r h) =
      Ideal.exp (win (steps al dt h) 512 r.val) := by
  rw [scan_hops, exp_at]
  refine congrArg Ideal.exp ?_
  refine hop_win _ 256 (by omega) _ h (fun r => ?_) r
  refine hop_win _ 128 (by omega) _ h (fun r => ?_) r
  refine hop_win _ 64 (by omega) _ h (fun r => ?_) r
  refine hop_win _ 32 (by omega) _ h (fun r => ?_) r
  refine hop_win _ 16 (by omega) _ h (fun r => ?_) r
  refine hop_win _ 8 (by omega) _ h (fun r => ?_) r
  refine hop_win _ 4 (by omega) _ h (fun r => ?_) r
  refine hop_win _ 2 (by omega) _ h (fun r => ?_) r
  refine hop_win _ 1 (by omega) _ h (fun r => ?_) r
  exact gated_win al dt h r

/-- The table of state scales: a head's scale times its decay over the whole chunk. -/
theorem col_at (D : FVec Ideal S512x128 .f32) (w : FVec Ideal S1x128x64 .f32) (p : Fin 64) (h : Fin 128) :
    k0_pay101 (F := Ideal) D (k0_pay30 w) (ix2 p h) = (w (ix3 0 h p) * D (ix2 511 h) : EReal) := by
  pointwise [k0_pay101, k0_pay30]

end Cert.Own
-- ==== Proof.Own.KerOut.lean ====
module

public import proofs.«01_k».proof.Proof.Gen.KernelIdeal.Value
public import proofs.«01_k».proof.Proof.Own.KerState
public import proofs.«01_k».proof.Proof.Own.KerScan
public import proofs.«01_k».proof.Proof.Own.Spec
public import Idealize.ShloMosaic.Lib.Pointwise
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Own

open Idealize.ShloMosaic Idealize.ShloMosaic.TcCoe Idealize.SL.Sem
open Cert.KernelIdeal Cert.KernelIdeal.Gen
variable (m : (ℓ : Loc nD τ sig) → Buf (Elt Ideal) ℓ)

section
variable (c : Dev nD) (t : Fin cfg0.N)

/-- The batch entry of a grid point. -/
abbrev bat (t : Fin cfg0.N) : Fin 3 := ⟨t.val / 8, by have : t.val < 24 := t.isLt; omega⟩

/-- The reshaped `a_log` holds the argument's entries. -/
theorem al_V (h : Fin 128) : V m c main_v0 (ix2 0 h) = (m ((c : Thread nD τ).loc main_arg4) : FVec Ideal S128 .f32) (ix1 h) := by
  entry_read
  pointwise

/-- The block of `a_log` at any point is the argument. -/
theorem al_blk (h : Fin 128) : iblk m c 4 t (ix2 0 h) = (m ((c : Thread nD τ).loc main_arg4) : FVec Ideal S128 .f32) (ix1 h) := by
  refine Eq.trans ?_ (al_V m c h)
  blk_ext [iblk, idx t]

/-- The block of `dt` is the batch entry's part of the argument. -/
theorem dt_blk (r : Fin 512) (h : Fin 128) :
    iblk m c 3 t (ix3 0 r h) = (m ((c : Thread nD τ).loc main_arg3) : FVec Ideal S3x512x128 .f32) (ix3 (bat t) r h) := by
  blk_ext [iblk, V, idx t]

/-- The block of the state scales is the batch entry's part of the argument. -/
theorem hs_blk (h : Fin 128) (p : Fin 64) :
    iblk m c 6 t (ix3 0 h p) = (m ((c : Thread nD τ).loc main_arg6) : FVec Ideal S3x128x64 .f32) (ix3 (bat t) h p) := by
  blk_ext [iblk, V, idx t]

/-- The block of the state codes is the part of the argument of the batch entry and the group's 16 heads. -/
theorem h0_blk (r : Fin 16) (p : Fin 64) (n : Fin 256) :
    iblk m c 5 t (ix4 0 r p n) = (m ((c : Thread nD τ).loc main_arg5) : FVec Ideal S3x128x64x256 .fp8e4m3)
      (ix4 (bat t) ⟨16 * (t.val % 8) + r.val, by omega⟩ p n) := by
  blk_ext [iblk, V, idx t]

/-- The block of the local states is the part of the argument of the batch entry and the group's 16 heads. -/
theorem hl_blk (r : Fin 16) (p : Fin 64) (n : Fin 256) :
    iblk m c 7 t (ix4 0 r p n) = (m ((c : Thread nD τ).loc main_arg7) : FVec Ideal S3x128x64x256 .f32)
      (ix4 (bat t) ⟨16 * (t.val % 8) + r.val, by omega⟩ p n) := by
  blk_ext [iblk, V, idx t]

/-- The kernel's running decay of a batch entry is the stated decay. -/
theorem DEC_at (r : Fin 512) (h : Fin 128) :
    DEC m c t (ix2 r h) = dec (m ((c : Thread nD τ).loc main_arg3)) (m ((c : Thread nD τ).loc main_arg4)) (bat t) r.val h := by
  refine (decay_at _ _ r h).trans ?_
  unfold dec
  refine congrArg (fun g => Ideal.exp (win g 512 r.val)) (funext fun i => ?_)
  unfold steps
  by_cases hi : i < 512
  · rw [dif_pos hi, dif_pos hi, dt_blk, al_blk]
  · rw [dif_neg hi, dif_neg hi]

/-- The kept state scales at a head are the argument's scale times the decay after the last token. -/
theorem COL_at (p : Fin 64) (h : Fin 128) :
    COL m c t (ix2 p h) = ((fun x : EReal => x) ((m ((c : Thread nD τ).loc main_arg6) : FVec Ideal S3x128x64 .f32) (ix3 (bat t) h p))
      * dec (m ((c : Thread nD τ).loc main_arg3)) (m ((c : Thread nD τ).loc main_arg4)) (bat t) 511 h) := by
  refine (col_at _ _ p h).trans ?_
  rw [hs_blk, DEC_at]
  rfl

/-- A decay times a scale times a code is the decay times the scaled code. -/
theorem st_alg {a b d l a' l' z : EReal} (h1 : a = a') (h2 : l = l') (h3 : z = b * d) : a * z + l = d * (a' * b) + l' := by
  rw [h1, h2, h3, ← mul_assoc, mul_comm _ d]

/-- The state row the kernel forms is the stated one: the decay multiplies the scale instead of the product. -/
theorem st_row (r : Fin 16) (p : Fin 64) (s : Fin cfg0.N) (hs : s.val / 8 = t.val / 8) :
    stOf (fun n => iblk m c 5 t (ix4 0 r p n)) (fun n => iblk m c 7 t (ix4 0 r p n)) (COL m c s (ix2 p ⟨16 * (t.val % 8) + r.val, by omega⟩))
      = stRow (m ((c : Thread nD τ).loc main_arg5)) (m ((c : Thread nD τ).loc main_arg6)) (m ((c : Thread nD τ).loc main_arg7))
        (dec (m ((c : Thread nD τ).loc main_arg3)) (m ((c : Thread nD τ).loc main_arg4)) (bat t) 511 ⟨16 * (t.val % 8) + r.val, by omega⟩)
        (bat t) ⟨16 * (t.val % 8) + r.val, by omega⟩ p := by
  funext n
  unfold stOf stRow
  have hb : bat s = bat t := Fin.ext hs
  have e := COL_at m c s p ⟨16 * (t.val % 8) + r.val, by omega⟩
  rw [hb] at e
  exact st_alg (h0_blk m c t r p n) (hl_blk m c t r p n) e
end

/-- The kernel's array of codes is the specification's, whatever the arguments. -/
theorem codes_ker (c : Dev nD) : (dats m 0 c).arrAt 9 cfg0.N
    = codesR (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  obtain ⟨r, p, n, rfl⟩ : ∃ (r : Fin 16) (p : Fin 64) (n : Fin 256), y = ix4 0 r p n := ⟨y 1, y 2, y 3, by funext q; fin_cases q <;> first | rfl | exact Subsingleton.elim (α := Fin 1) _ _⟩
  have hy : ((cfg0.win 9).blk t).view.emb (ix4 0 r p n) = ix4 (bat t) ⟨16 * (t.val % 8) + r.val, by omega⟩ p n := by
    blk_ext [idx t]
  rw [hy]
  refine (?_ : _ = (outsAt0 m c t.val t.isLt).2.1 (ix4 0 r p n)).trans ?_
  · blk_simp
    rw [after0_9]
  rw [codes_out]
  unfold codesF codesR
  have hst := st_row m c t r p ⟨8 * (t.val / 8), Pipeline.run_start_lt t⟩ (by simp)
  have hg := group t
  simp only [hg]
  exact congrArg (fun v => codeOf v n) hst

/-- The kernel's array of scales is the specification's, whatever the arguments. -/
theorem scales_ker (c : Dev nD) : (dats m 0 c).arrAt 10 cfg0.N
    = scalesR (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  obtain ⟨r, p, rfl⟩ : ∃ (r : Fin 16) (p : Fin 64), y = ix3 0 r p := ⟨y 1, y 2, by funext q; fin_cases q <;> first | rfl | exact Subsingleton.elim (α := Fin 1) _ _⟩
  have hy : ((cfg0.win 10).blk t).view.emb (ix3 0 r p) = ix3 (bat t) ⟨16 * (t.val % 8) + r.val, by omega⟩ p := by
    blk_ext [idx t]
  rw [hy]
  refine (?_ : _ = (outsAt0 m c t.val t.isLt).2.2.1 (ix3 0 r p)).trans ?_
  · blk_simp
    rw [after0_10]
  rw [scales_out]
  unfold scalesF scalesR
  have hst := st_row m c t r p ⟨8 * (t.val / 8), Pipeline.run_start_lt t⟩ (by simp)
  have hg := group t
  simp only [hg]
  exact congrArg (fun v => rsc (amax v)) hst

end Cert.Own
-- ==== Proof.Own.KerParts.lean ====
module

public import proofs.«01_k».proof.Proof.Gen.KernelIdeal.Skeleton
public import proofs.«01_k».proof.Proof.Own.KerRow
public import Idealize.ShloMosaic.Lib.Pointwise

@[expose] public section

set_option maxRecDepth 16384

noncomputable section

namespace Cert.Own

open Idealize.ShloMosaic Idealize.ShloMosaic.TcCoe Idealize.SL.Sem
open Cert.KernelIdeal Cert.KernelIdeal.Gen

/-- A selection on a true bit is its first branch. -/
theorem sel_one {α : Type} (x y : α) : Scalar.select (1#1) x y = x := rfl

/-- A selection on a false bit is its second branch. -/
theorem sel_zero {α : Type} (x y : α) : Scalar.select (0#1) x y = y := rfl

/-- Two words of small numbers compare equal exactly when the numbers are equal. -/
theorem eq_word (a b : ℕ) (ha : a < 2 ^ 32) (hb : b < 2 ^ 32) : IntOp.cmpi CmpIPredicate.eq (BitVec.ofNat 32 a) (BitVec.ofNat 32 b) = if a = b then 1#1 else 0#1 := by
  have h : (BitVec.ofNat 32 a = BitVec.ofNat 32 b) ↔ a = b := by
    constructor
    · intro h
      have := congrArg BitVec.toNat h
      simp only [BitVec.toNat_ofNat] at this
      omega
    · rintro rfl
      rfl
  by_cases e : a = b
  · subst e
    rw [if_pos rfl]
    simp [IntOp.cmpi]
  · rw [if_neg e]
    have : (BitVec.ofNat 32 a == BitVec.ofNat 32 b) = false := beq_eq_false_iff_ne.2 (mt h.1 e)
    change BitVec.ofBool (BitVec.ofNat 32 a == BitVec.ofNat 32 b) = _
    rw [this]
    rfl

/-- A choice of one of eight columns by a lane's segment. -/
theorem sel_word {α : Type} (a b : ℕ) (ha : a < 2 ^ 32) (hb : b < 2 ^ 32) (x y : α) :
    Scalar.select (IntOp.cmpi CmpIPredicate.eq (BitVec.ofNat 32 a) (BitVec.ofNat 32 b)) x y = if a = b then x else y := by
  rw [eq_word a b ha hb]
  split
  · rfl
  · rfl

/-- The floor division of a lane's number by 16, as the kernel spells it. -/
def floor16 (l : BitVec 32) : BitVec 32 :=
  Scalar.select
            (IntOp.andi
              (IntOp.cmpi CmpIPredicate.ne
                (IntOp.subi (BitVec.setWidth 32 (IntOp.cmpi CmpIPredicate.sgt l 0#32))
                  (BitVec.setWidth 32 (IntOp.cmpi CmpIPredicate.slt l 0#32)))
                (Scalar.subi (Scalar.extui (Scalar.cmpi CmpIPredicate.sgt 16#32 0#32))
                  (Scalar.extui (Scalar.cmpi CmpIPredicate.slt 16#32 0#32))))
              (IntOp.cmpi CmpIPredicate.ne (IntOp.remsi ArithUnit.vector l 16#32) 0#32))
            (IntOp.subi (IntOp.divsi ArithUnit.vector l 16#32) 1#32)
            (IntOp.divsi ArithUnit.vector l 16#32)

/-- The kernel's integer division of a lane by 16 is the division of numbers. -/
theorem floor16_eq : ∀ l : Fin 128, floor16 (BitVec.ofNat 32 l.val) = BitVec.ofNat 32 (l.val / 16) := by
  decide +kernel

/-- The kernel's product of the code scales with the decay: each head's lane takes its group's scale. -/
def prod (D : FVec Ideal S512x128 .f32) (w : FVec Ideal S512x8 .f32) (I : IVec S512x128 32) : FVec Ideal S512x128 .f32 :=
  k0_pay23 D w I (k0_pay19 w I (k0_pay17 w I (k0_pay13 w I (k0_pay10 w I k0_pay7 16#32 k0_pay8 k0_pay9 (Scalar.cmpi .sgt 16#32 0#32)) (k0_pay11 I) (k0_pay12 w))
    16#32 (k0_pay14 I) (k0_pay15 I) k0_pay16) 16#32 (k0_pay18 I) 0#32) (k0_pay20 I) (k0_pay21 I) (k0_pay22 I)

/-- The selected code scale times the decay: lane `l` takes the scale of group `l / 16`. -/
theorem prod_at (D : FVec Ideal S512x128 .f32) (w : FVec Ideal S512x8 .f32) (t : Fin 512) (l : Fin 128) :
    prod D w (iota .tc S512x128 32 [1] iota_S512x128_d1_w32) (ix2 t l) = (w (ix2 t ⟨l.val / 16, by omega⟩) * D (ix2 t l) : EReal) := by
  have e := floor16_eq l
  unfold floor16 at e
  pointwise [prod, k0_pay23, k0_pay19, k0_pay17, k0_pay13, k0_pay10, k0_pay7, k0_pay8, k0_pay9, k0_pay11, k0_pay12, k0_pay14, k0_pay15, k0_pay16, k0_pay18, k0_pay20, k0_pay21, k0_pay22]
  simp only [e]
  refine congrArg (fun x : EReal => x * D (ix2 t l)) ?_
  have hq : l.val / 16 < 8 := by omega
  repeat rw [sel_word _ _ (by omega) (by omega)]
  split_ifs with h7 h6 h5 h4 h3 h2 h1 h0
  all_goals first | (exfalso; omega) | (refine congrArg (fun k => w (ix2 t k)) (Fin.ext ?_); first | (dsimp only; omega) | (change 1 = l.val / 16; omega) | (change 0 = l.val / 16; omega))

/-- The segment of a lane. -/
theorem seg_at (l : Fin 128) : k0_pay124 (ix2 0 l) = BitVec.ofNat 32 (l.val / 16) := by
  have e := floor16_eq l
  unfold floor16 at e
  pointwise [k0_pay124]
  exact e

/-- The lanes a group of heads hands to the expansion: the high parts of its heads, then the two lower parts. -/
def partsT (g : ℕ) (H M L : FVec Ideal S512x128 .f32) : FVec Ideal S512x128 .bf16 :=
  k0_pay127 (BitVec.ofNat 32 g) k0_pay124 (shift g) (k0_pay125 (BitVec.ofNat 32 g) k0_pay124 H M L) (k0_pay126 (BitVec.ofNat 32 g) k0_pay124) 8#32
    (Scalar.remsi (Scalar.addi (BitVec.ofNat 32 g) 1#32) 8#32) (Scalar.cmpi .ne (Scalar.remsi (Scalar.addi (BitVec.ofNat 32 g) 1#32) 8#32) 0#32)
    (Scalar.cmpi .slt (Scalar.remsi (Scalar.addi (BitVec.ofNat 32 g) 1#32) 8#32) 0#32)

/-- An alternative whose first bit is true is true. -/
theorem or_first (a b : BitVec 1) : IntOp.ori (IntOp.ori 1#1 a) b = 1#1 := by
  revert a b
  decide

/-- A selection between two equal branches is the branch. -/
theorem sel_same {α : Type} (c : BitVec 1) (x : α) : Scalar.select c x x = x := by
  unfold Scalar.select
  split <;> rfl

/-- When the middle and low tables are zero, the rolled parts hold the group's 16 high factors in the first lanes and zero in the others. -/
theorem parts_at (g : ℕ) (hg : g < 8) (H M L : FVec Ideal S512x128 .f32) (hM : ∀ i, M i = (0 : EReal)) (hL : ∀ i, L i = (0 : EReal)) (t : Fin 512) (k : Fin 128) :
    partsT g H M L (ix2 t k) = if h : k.val < 16 then H (ix2 t ⟨16 * g + k.val, by omega⟩) else (0 : EReal) := by
  have e := shift_eq ⟨g, hg⟩
  pointwise [partsT, k0_pay127, k0_pay126, k0_pay125]
  simp only [seg_at, hM, hL, sel_same]
  by_cases h : k.val < 16
  · rw [dif_pos h]
    have el : (k.val + 128 - (shift g).toNat % 128) % 128 = 16 * g + k.val := by
      simp only [e]
      omega
    rw [eq_word _ _ (by omega) (by omega), if_pos (by rw [el]; omega), or_first, sel_one, sel_one]
    exact congrArg (fun j => H (ix2 t j)) (Fin.ext el)
  · rw [dif_neg h]
    have el : (k.val + 128 - (shift g).toNat % 128) % 128 / 16 ≠ g := by
      simp only [e]
      omega
    rw [eq_word _ _ (by omega) (by omega), if_neg el, sel_zero, sel_same]

/-- The row condition of the expansion table. -/
def rem16 (k : BitVec 32) : BitVec 32 :=
  (Scalar.select
          (IntOp.andi
            (IntOp.xori
              (IntOp.cmpi CmpIPredicate.slt
                (IntOp.remsi ArithUnit.vector k
                  (Scalar.select (Scalar.cmpi CmpIPredicate.eq 16#32 0#32) 1#32 16#32))
                0#32)
              (Scalar.cmpi CmpIPredicate.slt (Scalar.select (Scalar.cmpi CmpIPredicate.eq 16#32 0#32) 1#32 16#32) 0#32))
            (IntOp.cmpi CmpIPredicate.ne
              (IntOp.remsi ArithUnit.vector k
                (Scalar.select (Scalar.cmpi CmpIPredicate.eq 16#32 0#32) 1#32 16#32))
              0#32))
          (IntOp.addi
            (IntOp.remsi ArithUnit.vector k
              (Scalar.select (Scalar.cmpi CmpIPredicate.eq 16#32 0#32) 1#32 16#32))
            (Scalar.select (Scalar.cmpi CmpIPredicate.eq 16#32 0#32) 1#32 16#32))
          (IntOp.remsi ArithUnit.vector k
            (Scalar.select (Scalar.cmpi CmpIPredicate.eq 16#32 0#32) 1#32 16#32)))

/-- The kernel's integer remainder of a row by 16 is the remainder of numbers. -/
theorem rem16_eq : ∀ k : Fin 128, rem16 (BitVec.ofNat 32 k.val) = BitVec.ofNat 32 (k.val % 16) := by
  decide +kernel

/-- The floor division of a channel's number by 64, as the kernel spells it. -/
def floor64 (J : BitVec 32) : BitVec 32 :=
  (Scalar.select
          (IntOp.andi
            (IntOp.cmpi CmpIPredicate.ne
              (IntOp.subi (BitVec.setWidth 32 (IntOp.cmpi CmpIPredicate.sgt J 0#32))
                (BitVec.setWidth 32 (IntOp.cmpi CmpIPredicate.slt J 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector J 64#32) 0#32))
          (IntOp.subi (IntOp.divsi ArithUnit.vector J 64#32) 1#32)
          (IntOp.divsi ArithUnit.vector J 64#32))

/-- The kernel's integer division of a channel by 64 is the division of numbers. -/
theorem floor64_eq : ∀ J : Fin 1024, floor64 (BitVec.ofNat 32 J.val) = BitVec.ofNat 32 (J.val / 64) := by
  decide +kernel

/-- The comparison of a row with 48 is that of numbers. -/
theorem small_eq : ∀ k : Fin 128, IntOp.cmpi CmpIPredicate.slt (BitVec.ofNat 32 k.val) 48#32 = if k.val < 48 then 1#1 else 0#1 := by
  decide +kernel

/-- The table's mask is true at row `k` and channel `J` when `k` names the channel's head and is below 48. -/
theorem mask_at (k : Fin 128) (J : Fin 1024) : k0_pay2 (ix2 k J) = if k.val % 16 = J.val / 64 ∧ k.val < 48 then 1#1 else 0#1 := by
  have e1 := rem16_eq k
  have e2 := floor64_eq J
  unfold rem16 at e1
  unfold floor64 at e2
  pointwise [k0_pay2]
  rw [e1, e2, eq_word _ _ (by omega) (by omega), small_eq]
  by_cases h : k.val % 16 = J.val / 64 <;> by_cases h' : k.val < 48 <;> simp [h, h', IntOp.andi]

/-- The expansion table: one where the row's number modulo 16 is the channel's head, in the first 48 rows. -/
theorem table_at (k : Fin 128) (J : Fin 1024) :
    k0_pay122 (F := Ideal) k0_pay2 (ix2 k J) = if k.val % 16 = J.val / 64 ∧ k.val < 48 then (1 : EReal) else 0 := by
  have e := mask_at k J
  generalize k0_pay2 = v at e
  pointwise [k0_pay122]
  rw [e]
  split
  · rfl
  · rfl

/-- A group's lanes through the expansion table give each channel its head's factor. -/
theorem expand (g : ℕ) (hg : g < 8) (H M L : FVec Ideal S512x128 .f32) (hM : ∀ i, M i = (0 : EReal)) (hL : ∀ i, L i = (0 : EReal)) (t : Fin 512) (J : Fin 1024) :
    ∑ k : Fin 128, (partsT g H M L (ix2 t k) * k0_pay122 (F := Ideal) k0_pay2 (ix2 k J) : EReal) = H (ix2 t ⟨16 * g + J.val / 64, by omega⟩) := by
  refine (Finset.sum_eq_single (⟨J.val / 64, by omega⟩ : Fin 128) (fun k _ hk => ?_) (fun h => absurd (Finset.mem_univ _) h)).trans ?_
  · rw [parts_at g hg H M L hM hL, table_at]
    by_cases h : k.val < 16
    · rw [if_neg (fun h' => hk (Fin.ext (by have := h'.1; dsimp only; omega))), mul_zero]
    · rw [dif_neg h, zero_mul]
  · rw [parts_at g hg H M L hM hL, table_at, dif_pos (by dsimp only; omega), if_pos ⟨by dsimp only; omega, by dsimp only; omega⟩, mul_one]

end Cert.Own
-- ==== Proof.Own.KerTile.lean ====
module

public import proofs.«01_k».proof.Proof.Gen.KernelIdeal.Skeleton
public import proofs.«01_k».proof.Proof.Own.KerRow
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Own

open Idealize.ShloMosaic Idealize.ShloMosaic.TcCoe Idealize.SL.Sem
open Cert.KernelIdeal Cert.KernelIdeal.Gen

/-- A group's block of the output: the input plus the codes' product with the state codes, times the state scale, times the head's factor through the table. -/
def yF (g : ℕ) (hg : g < 8) (X0 : FVec Ideal S1x512x1024 .bf16) (X5 : FVec Ideal S1x16x64x256 .fp8e4m3) (C8 : FVec Ideal S8x512x256 .fp8e4m3)
    (P : FVec Ideal S512x128 .bf16) (E : FVec Ideal S128x1024 .bf16) (S : FVec Ideal S64x128 .f32) (t : Fin 512) (J : Fin 1024) : EReal :=
  X0 (ix3 0 t J) + (∑ n : Fin 256, (C8 (ix3 ⟨g, hg⟩ t n) * X5 (ix4 0 ⟨J.val / 64, by omega⟩ ⟨J.val % 64, by omega⟩ n) : EReal))
    * S (ix2 ⟨8 * g + J.val / 128, by omega⟩ ⟨J.val % 128, by omega⟩) * (∑ k : Fin 128, (P (ix2 t k) * E (ix2 k J) : EReal))

section
variable (c : FVec Ideal S1x512x256 .fp8e4m3) (h : FVec Ideal S1x4x64x256 .fp8e4m3) (P : FVec Ideal S512x128 .bf16) (e : FVec Ideal S128x256 .bf16)
  (s : FVec Ideal S1x128 .f32) (yv : FVec Ideal S1x512x128 .bf16)

/-- The scores of a tile are sums over the state index of code times state code. -/
theorem scores_at (t : Fin 512) (l : Fin 256) :
    k0_pay129 (F := Ideal) c h (ix2 t l) = ∑ n : Fin 256, (c (ix3 0 t n) * h (ix4 0 ⟨l.val / 64, by omega⟩ ⟨l.val % 64, by omega⟩ n) : EReal) := by
  pointwise [k0_pay129, k0_pay128]

/-- The expanded factors of a tile are sums over the table's rows of part times table entry. -/
theorem factor_at (t : Fin 512) (l : Fin 256) : k0_pay135 (F := Ideal) P e (ix2 t l) = ∑ n : Fin 128, (P (ix2 t n) * e (ix2 n l) : EReal) := by
  pointwise [k0_pay135]

/-- An even tile adds score times scale times factor, in the lower 128 lanes, to the input. -/
theorem even_at (A B : FVec Ideal S512x256 .f32) (t : Fin 512) (l : Fin 128) :
    k0_pay131 (F := Ideal) A B s yv (ix3 0 t l) = (yv (ix3 0 t l) + A (ix2 t ⟨0 + l.val, by omega⟩) * s (ix2 0 l) * B (ix2 t ⟨0 + l.val, by omega⟩) : EReal) := by
  pointwise [k0_pay131]

/-- An odd tile adds score times scale times factor, in the upper 128 lanes, to the input. -/
theorem odd_at (A B : FVec Ideal S512x256 .f32) (t : Fin 512) (l : Fin 128) :
    k0_pay148 (F := Ideal) A B s yv (ix3 0 t l) = (yv (ix3 0 t l) + A (ix2 t ⟨128 + l.val, by omega⟩) * s (ix2 0 l) * B (ix2 t ⟨128 + l.val, by omega⟩) : EReal) := by
  pointwise [k0_pay148]

variable (g : ℕ) (hg : g < 8) (X0 : FVec Ideal S1x512x1024 .bf16) (X5 : FVec Ideal S1x16x64x256 .fp8e4m3) (C8 : FVec Ideal S8x512x256 .fp8e4m3)
    (E : FVec Ideal S128x1024 .bf16) (S : FVec Ideal S64x128 .f32)

/-- A tile made of loads that agree with the group's buffers is the group's block at the tile's channels. -/
theorem tile_core (j : ℕ) (hj : j < 4) (b : ℕ) (hb : b < 2)
    (hc : ∀ t n, c (ix3 0 t n) = C8 (ix3 ⟨g, hg⟩ t n)) (hh : ∀ q p n, h (ix4 0 q p n) = X5 (ix4 0 ⟨4 * j + q.val, by omega⟩ p n))
    (he : ∀ k i, e (ix2 k i) = E (ix2 k ⟨256 * j + i.val, by omega⟩)) (hs : ∀ l, s (ix2 0 l) = S (ix2 ⟨8 * g + 2 * j + b, by omega⟩ l))
    (hy : ∀ t l, yv (ix3 0 t l) = X0 (ix3 0 t ⟨256 * j + 128 * b + l.val, by omega⟩))
    (t : Fin 512) (l : Fin 128) (J : Fin 1024) (hJ : J.val = 256 * j + 128 * b + l.val) :
    (yv (ix3 0 t l) + k0_pay129 (F := Ideal) c h (ix2 t ⟨128 * b + l.val, by omega⟩) * s (ix2 0 l) * k0_pay135 (F := Ideal) P e (ix2 t ⟨128 * b + l.val, by omega⟩) : EReal)
      = yF g hg X0 X5 C8 P E S t J := by
  rw [scores_at, factor_at]
  unfold yF
  simp only [hc, hh, he, hs, hy]
  have e1 : (⟨256 * j + 128 * b + l.val, by omega⟩ : Fin 1024) = J := Fin.ext hJ.symm
  have e2 : (⟨4 * j + (128 * b + l.val) / 64, by omega⟩ : Fin 16) = ⟨J.val / 64, by omega⟩ := Fin.ext (by dsimp only; omega)
  have e3 : (⟨(128 * b + l.val) % 64, by omega⟩ : Fin 64) = ⟨J.val % 64, by omega⟩ := Fin.ext (by dsimp only; omega)
  have e4 : (⟨8 * g + 2 * j + b, by omega⟩ : Fin 64) = ⟨8 * g + J.val / 128, by omega⟩ := Fin.ext (by dsimp only; omega)
  have e5 : l = ⟨J.val % 128, by omega⟩ := Fin.ext (by dsimp only; omega)
  have e6 : (⟨256 * j + (128 * b + l.val), by omega⟩ : Fin 1024) = J := Fin.ext (by dsimp only; omega)
  rw [e1, e2, e3, e4, e6, ← e5]

/-- An even tile of a group's block. -/
theorem tile_even (j : ℕ) (hj : j < 4) (x : S1x512x128.Idx) (y : S1x512x1024.Idx)
    (hc : ∀ t n, c (ix3 0 t n) = C8 (ix3 ⟨g, hg⟩ t n)) (hh : ∀ q p n, h (ix4 0 q p n) = X5 (ix4 0 ⟨4 * j + q.val, by omega⟩ p n))
    (he : ∀ k i, e (ix2 k i) = E (ix2 k ⟨256 * j + i.val, by omega⟩)) (hs : ∀ l, s (ix2 0 l) = S (ix2 ⟨8 * g + 2 * j, by omega⟩ l))
    (hy : ∀ t l, yv (ix3 0 t l) = X0 (ix3 0 t ⟨256 * j + l.val, by omega⟩))
    (h1 : (y 1 : ℕ) = (x 1 : ℕ)) (h2 : (y 2 : ℕ) = 256 * j + (x 2 : ℕ)) :
    k0_pay131 (F := Ideal) (k0_pay129 c h) (k0_pay135 P e) s yv x = yF g hg X0 X5 C8 P E S (y 1) (y 2) := by
  obtain ⟨t, l, rfl⟩ : ∃ t l, x = ix3 0 t l := ⟨x 1, x 2, by funext q; fin_cases q <;> first | rfl | exact Subsingleton.elim (α := Fin 1) _ _⟩
  obtain rfl : y 1 = t := Fin.ext h1
  refine (even_at s yv _ _ (y 1) l).trans ?_
  exact tile_core c h P e s yv g hg X0 X5 C8 E S j hj 0 (by omega) hc hh he hs hy (y 1) l (y 2) h2

/-- An odd tile of a group's block. -/
theorem tile_odd (j : ℕ) (hj : j < 4) (x : S1x512x128.Idx) (y : S1x512x1024.Idx)
    (hc : ∀ t n, c (ix3 0 t n) = C8 (ix3 ⟨g, hg⟩ t n)) (hh : ∀ q p n, h (ix4 0 q p n) = X5 (ix4 0 ⟨4 * j + q.val, by omega⟩ p n))
    (he : ∀ k i, e (ix2 k i) = E (ix2 k ⟨256 * j + i.val, by omega⟩)) (hs : ∀ l, s (ix2 0 l) = S (ix2 ⟨8 * g + 2 * j + 1, by omega⟩ l))
    (hy : ∀ t l, yv (ix3 0 t l) = X0 (ix3 0 t ⟨256 * j + 128 + l.val, by omega⟩))
    (h1 : (y 1 : ℕ) = (x 1 : ℕ)) (h2 : (y 2 : ℕ) = 256 * j + 128 + (x 2 : ℕ)) :
    k0_pay148 (F := Ideal) (k0_pay129 c h) (k0_pay135 P e) s yv x = yF g hg X0 X5 C8 P E S (y 1) (y 2) := by
  obtain ⟨t, l, rfl⟩ : ∃ t l, x = ix3 0 t l := ⟨x 1, x 2, by funext q; fin_cases q <;> first | rfl | exact Subsingleton.elim (α := Fin 1) _ _⟩
  obtain rfl : y 1 = t := Fin.ext h1
  refine (odd_at s yv _ _ (y 1) l).trans ?_
  exact tile_core c h P e s yv g hg X0 X5 C8 E S j hj 1 (by omega) hc hh he hs hy (y 1) l (y 2) h2
end

end Cert.Own
-- ==== Proof.Own.KerCode.lean ====
module

public import proofs.«01_k».proof.Proof.Gen.KernelIdeal.Skeleton
public import proofs.«01_k».proof.Proof.Own.KerRow
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Own

open Idealize.ShloMosaic Idealize.ShloMosaic.TcCoe Idealize.SL.Sem
open Cert.KernelIdeal Cert.KernelIdeal.Gen

section
variable (X1 : FVec Ideal S1x512x8x256 .fp8e4m3)

/-- The upper half of the codes, as the scratch of widened codes receives it. -/
abbrev hiPiece : View.Piece (Elt Ideal) S2x4096x128 .f32 :=
  ⟨Rect.unit ![1, 0, 0] ![1, 4096, 128] inb_S2x4096x128_S1x4096x128_1_0_0,
    k0_pay103 (F := Ideal) (View.ld (Val := Elt Ideal) (S := S1x512x8x256) (e' := .fp8e4m3) X1 (Rect.unit (s := S1x512x8x256) ![0, 0, 0, 128] ![1, 512, 8, 128] inb_S1x512x8x256_S1x512x8x128_0_0_0_128))⟩

/-- The store of the lower half of the code scratch, as the kernel writes it: the lower 128 lanes of every code row. -/
abbrev loPiece : View.Piece (Elt Ideal) S2x4096x128 .f32 :=
  ⟨Rect.unit ![0, 0, 0] ![1, 4096, 128] inb_S2x4096x128_S1x4096x128_0_0_0,
    k0_pay102 (F := Ideal) (View.ld (Val := Elt Ideal) (S := S1x512x8x256) (e' := .fp8e4m3) X1 (Rect.unit (s := S1x512x8x256) ![0, 0, 0, 0] ![1, 512, 8, 128] inb_S1x512x8x256_S1x512x8x128_0_0_0_0))⟩

/-- Row `r` of the upper half's store is the upper 128 lanes of the codes of token `r / 8` and group `r % 8`. -/
theorem hi_at (r : Fin 4096) (l : Fin 128) : (hiPiece X1).2 (ix3 0 r l) = X1 (ix4 0 ⟨r.val / 8, by omega⟩ ⟨r.val % 8, by omega⟩ ⟨128 + l.val, by omega⟩) := by
  pointwise [k0_pay103]

/-- Row `r` of the lower half's store is the lower 128 lanes of the codes of token `r / 8` and group `r % 8`. -/
theorem lo_at (r : Fin 4096) (l : Fin 128) : (loPiece X1).2 (ix3 0 r l) = X1 (ix4 0 ⟨r.val / 8, by omega⟩ ⟨r.val % 8, by omega⟩ ⟨l.val, by omega⟩) := by
  pointwise [k0_pay102]

/-- A row of every token read back out of the widened codes, upper half. -/
theorem row_hi (s : ℕ) (hs : s < 8) (inb) (t : Fin 512) (l : Fin 128) :
    (View.whole cc0_scratch0).readCov [hiPiece X1, loPiece X1] ({ off := ![1, s, 0], size := ![1, 512, 128], stride := ![1, 8, 1], inb := inb } : LoadRect S2x4096x128) (ix3 0 t l)
      = X1 (ix4 0 t ⟨s, hs⟩ ⟨128 + l.val, by omega⟩) := by
  rw [View.readCov_eq_canon']
  dsimp only
  have e : (({ off := ![1, s, 0], size := ![1, 512, 128], stride := ![1, 8, 1], inb := inb } : LoadRect S2x4096x128).idx (ix3 0 t l)) = (hiPiece X1).1.emb (ix3 0 ⟨s + 8 * t.val, by omega⟩ l) := by
    funext a
    apply Fin.ext
    fin_cases a <;> simp [LoadRect.idx, Rect.emb, hiPiece, Rect.unit]
  rw [e]
  refine (View.canon_cons_emb _ _ _ _).trans ?_
  refine (hi_at X1 _ _).trans ?_
  exact congrArg₂ (fun a b => X1 (ix4 0 a b ⟨128 + l.val, by omega⟩)) (Fin.ext (by dsimp only; omega)) (Fin.ext (by dsimp only; omega))

/-- A row of every token read back out of the widened codes, lower half. -/
theorem row_lo (s : ℕ) (hs : s < 8) (inb) (t : Fin 512) (l : Fin 128) :
    (View.whole cc0_scratch0).readCov [loPiece X1] ({ off := ![0, s, 0], size := ![1, 512, 128], stride := ![1, 8, 1], inb := inb } : LoadRect S2x4096x128) (ix3 0 t l)
      = X1 (ix4 0 t ⟨s, hs⟩ ⟨l.val, by omega⟩) := by
  rw [View.readCov_eq_canon']
  dsimp only
  have e : (({ off := ![0, s, 0], size := ![1, 512, 128], stride := ![1, 8, 1], inb := inb } : LoadRect S2x4096x128).idx (ix3 0 t l)) = (loPiece X1).1.emb (ix3 0 ⟨s + 8 * t.val, by omega⟩ l) := by
    funext a
    apply Fin.ext
    fin_cases a <;> simp [LoadRect.idx, Rect.emb, loPiece, Rect.unit]
  rw [e]
  refine (View.canon_cons_emb _ _ _ _).trans ?_
  refine (lo_at X1 _ _).trans ?_
  exact congrArg₂ (fun a b => X1 (ix4 0 a b ⟨l.val, by omega⟩)) (Fin.ext (by dsimp only; omega)) (Fin.ext (by dsimp only; omega))

/-- The codes of a batch entry with the groups in front. -/
def code8 (y : S8x512x256.Idx) : EReal := X1 (ix4 0 (y 1) (y 0) (y 2))

/-- The cast to eight bits keeps every entry. -/
theorem narrow_at (w : FVec Ideal S1x512x128 .f32) (t : Fin 512) (l : Fin 128) : k0_pay120 (F := Ideal) w (ix3 0 t l) = w (ix3 0 t l) := by
  pointwise [k0_pay120]

/-- An upper tile of the kept codes. -/
theorem piece_hi (s : ℕ) (hs : s < 8) (inb) (x : S1x512x128.Idx) (y : S8x512x256.Idx) (h0 : (y 0 : ℕ) = s + (x 0 : ℕ)) (h1 : (y 1 : ℕ) = (x 1 : ℕ)) (h2 : (y 2 : ℕ) = 128 + (x 2 : ℕ)) :
    k0_pay120 (F := Ideal) ((View.whole cc0_scratch0).readCov [hiPiece X1, loPiece X1] ({ off := ![1, s, 0], size := ![1, 512, 128], stride := ![1, 8, 1], inb := inb } : LoadRect S2x4096x128)) x
      = code8 X1 y := by
  obtain ⟨t, l, rfl⟩ : ∃ t l, x = ix3 0 t l := ⟨x 1, x 2, by funext q; fin_cases q <;> first | rfl | exact Subsingleton.elim (α := Fin 1) _ _⟩
  refine (narrow_at _ t l).trans ((row_hi X1 s hs inb t l).trans ?_)
  have e0 : (⟨s, hs⟩ : Fin 8) = y 0 := Fin.ext h0.symm
  have e1 : t = y 1 := Fin.ext h1.symm
  have e2 : (⟨128 + l.val, by omega⟩ : Fin 256) = y 2 := Fin.ext h2.symm
  unfold code8
  rw [e0, e1, e2]

/-- A lower tile of the kept codes. -/
theorem piece_lo (s : ℕ) (hs : s < 8) (inb) (x : S1x512x128.Idx) (y : S8x512x256.Idx) (h0 : (y 0 : ℕ) = s + (x 0 : ℕ)) (h1 : (y 1 : ℕ) = (x 1 : ℕ)) (h2 : (y 2 : ℕ) = (x 2 : ℕ)) :
    k0_pay120 (F := Ideal) ((View.whole cc0_scratch0).readCov [loPiece X1] ({ off := ![0, s, 0], size := ![1, 512, 128], stride := ![1, 8, 1], inb := inb } : LoadRect S2x4096x128)) x
      = code8 X1 y := by
  obtain ⟨t, l, rfl⟩ : ∃ t l, x = ix3 0 t l := ⟨x 1, x 2, by funext q; fin_cases q <;> first | rfl | exact Subsingleton.elim (α := Fin 1) _ _⟩
  refine (narrow_at _ t l).trans ((row_lo X1 s hs inb t l).trans ?_)
  have e0 : (⟨s, hs⟩ : Fin 8) = y 0 := Fin.ext h0.symm
  have e1 : t = y 1 := Fin.ext h1.symm
  have e2 : (⟨l.val, by omega⟩ : Fin 256) = y 2 := Fin.ext h2.symm
  unfold code8
  rw [e0, e1, e2]
end

/-- A row of the flattened scales: two heads side by side. -/
def rowT (w : FVec Ideal S128x64 .f32) (a b : ℕ) (ha : S128x64.Slices ![a, 0] S1x64) (hb : S128x64.Slices ![b, 0] S1x64) : FVec Ideal S1x128 .f32 :=
  shapeCast S1x128 (concatenate S1x128 1 [⟨S1x64, extractStridedSlice S1x64 ![a, 0] w ha⟩, ⟨S1x64, extractStridedSlice S1x64 ![b, 0] w hb⟩] concatenates_S1x64_S1x64_S1x128_d1)
    shapeCasts_S1x128_S1x128

/-- The flattened scales of a batch entry: 64 rows of 128 channels. -/
def flatS (w : FVec Ideal S128x64 .f32) (y : S64x128.Idx) : EReal :=
  w (ix2 ⟨2 * (y 0).val + (y 1).val / 64, by have := (y 0).isLt; have := (y 1).isLt; change _ < 64 at *; change _ < 128 at *; omega⟩ ⟨(y 1).val % 64, by omega⟩)

/-- A joined row reads from the first of its two heads in the lower 64 lanes and from the second in the upper 64. -/
theorem rowT_at (w : FVec Ideal S128x64 .f32) (a b : ℕ) (ha : S128x64.Slices ![a, 0] S1x64) (hb : S128x64.Slices ![b, 0] S1x64) (l : Fin 128) (ha' : a < 128) (hb' : b < 128) :
    rowT w a b ha hb (ix2 0 l) = if h : l.val < 64 then w (ix2 ⟨a, ha'⟩ ⟨l.val, h⟩) else w (ix2 ⟨b, hb'⟩ ⟨l.val - 64, by omega⟩) := by
  pointwise [rowT]

/-- The joined row of heads `2 r` and `2 r + 1` is row `r` of the flat scales. -/
theorem row_piece (w : FVec Ideal S128x64 .f32) (r a b : ℕ) (ha : S128x64.Slices ![a, 0] S1x64) (hb : S128x64.Slices ![b, 0] S1x64) (x : S1x128.Idx) (y : S64x128.Idx)
    (h0 : (y 0 : ℕ) = r + (x 0 : ℕ)) (h1 : (y 1 : ℕ) = (x 1 : ℕ)) (hra : a = 2 * r) (hrb : b = 2 * r + 1) : rowT w a b ha hb x = flatS w y := by
  obtain ⟨l, rfl⟩ : ∃ l, x = ix2 0 l := ⟨x 1, by funext q; fin_cases q <;> first | rfl | exact Subsingleton.elim (α := Fin 1) _ _⟩
  have hr : (y 0 : ℕ) < 64 := (y 0).isLt
  have h0' : (y 0 : ℕ) = r := h0
  have h1' : (y 1 : ℕ) = l.val := h1
  rw [rowT_at w a b ha hb l (by omega) (by omega)]
  unfold flatS
  split
  · exact congrArg₂ (fun i j => w (ix2 i j)) (Fin.ext (by dsimp only; omega)) (Fin.ext (by dsimp only; omega))
  · exact congrArg₂ (fun i j => w (ix2 i j)) (Fin.ext (by dsimp only; omega)) (Fin.ext (by dsimp only; omega))

end Cert.Own
-- ==== Proof.Own.KerHeld.lean ====
module

public import proofs.«01_k».proof.Proof.Gen.KernelIdeal.Value
public import proofs.«01_k».proof.Proof.Own.KerOut
public import proofs.«01_k».proof.Proof.Own.KerParts
public import proofs.«01_k».proof.Proof.Own.KerCode
public import Idealize.ShloMosaic.Lib.Pointwise
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Own

open Idealize.ShloMosaic Idealize.ShloMosaic.TcCoe Idealize.SL.Sem
open Cert.KernelIdeal Cert.KernelIdeal.Gen
variable (m : (ℓ : Loc nD τ sig) → Buf (Elt Ideal) ℓ)

/-- The lanes' numbers. -/
abbrev lanes : IVec S512x128 32 := iota .tc S512x128 32 [1] iota_S512x128_d1_w32

/-- The code scales spread over the lanes of the first six groups. -/
abbrev spread (w : FVec Ideal S512x8 .f32) : FVec Ideal S512x128 .f32 :=
  k0_pay19 w lanes (k0_pay17 w lanes (k0_pay13 w lanes (k0_pay10 w lanes k0_pay7 16#32 k0_pay8 k0_pay9 (Scalar.cmpi .sgt 16#32 0#32)) (k0_pay11 lanes) (k0_pay12 w))
    16#32 (k0_pay14 lanes) (k0_pay15 lanes) k0_pay16) 16#32 (k0_pay18 lanes) 0#32

/-- The high part of the product of scales and decay. -/
def hiT (D : FVec Ideal S512x128 .f32) (w : FVec Ideal S512x8 .f32) : FVec Ideal S512x128 .f32 :=
  k0_pay27 (k0_pay24 D w lanes (spread w) (k0_pay20 lanes) (k0_pay21 lanes) (k0_pay22 lanes))

/-- The middle part, rolled by one group. -/
def midT (D : FVec Ideal S512x128 .f32) (w : FVec Ideal S512x8 .f32) : FVec Ideal S512x128 .f32 :=
  k0_pay28 (k0_pay26 D w lanes (spread w) (k0_pay20 lanes) (k0_pay21 lanes) (k0_pay22 lanes))

/-- The low part, rolled by two groups. -/
def loT (D : FVec Ideal S512x128 .f32) (w : FVec Ideal S512x8 .f32) : FVec Ideal S512x128 .f32 :=
  k0_pay29 (k0_pay25 D w lanes (spread w) (k0_pay20 lanes) (k0_pay21 lanes) (k0_pay22 lanes))
    (k0_pay26 D w lanes (spread w) (k0_pay20 lanes) (k0_pay21 lanes) (k0_pay22 lanes))

section
variable (D : FVec Ideal S512x128 .f32) (w : FVec Ideal S512x8 .f32) (I : IVec S512x128 32) (v : FVec Ideal S512x128 .f32) (a : IVec S512x128 32) (b c : IVec S512x128 1)

/-- The stored high part of a factor is the factor. -/
theorem hi_val (t : Fin 512) (l : Fin 128) : k0_pay27 (F := Ideal) (k0_pay24 D w I v a b c) (ix2 t l) = k0_pay23 D w I v a b c (ix2 t l) := by
  have e : ∀ P : FVec Ideal S512x128 .f32, k0_pay27 (F := Ideal) (extf .f32 (truncf .bf16 P bitsLt_bf16_f32) bitsLt_bf16_f32) (ix2 t l) = P (ix2 t l) := fun P => by
    pointwise [k0_pay27]
  exact e _

/-- The middle part is zero where the factor less itself is zero. -/
theorem mid_val (hP : ∀ i, k0_pay23 (F := Ideal) D w I v a b c i - k0_pay23 (F := Ideal) D w I v a b c i = (0 : EReal)) (t : Fin 512) (l : Fin 128) :
    k0_pay28 (F := Ideal) (k0_pay26 D w I v a b c) (ix2 t l) = (0 : EReal) := by
  have e : ∀ P : FVec Ideal S512x128 .f32, (∀ i, P i - P i = (0 : EReal)) →
      k0_pay28 (F := Ideal) (extf .f32 (truncf .bf16 (subf P (extf .f32 (truncf .bf16 P bitsLt_bf16_f32) bitsLt_bf16_f32)) bitsLt_bf16_f32) bitsLt_bf16_f32) (ix2 t l) = (0 : EReal) := fun P h => by
    pointwise [k0_pay28]
    exact h _
  exact e _ hP

/-- The low part is zero where the factor less itself is zero. -/
theorem lo_val (hP : ∀ i, k0_pay23 (F := Ideal) D w I v a b c i - k0_pay23 (F := Ideal) D w I v a b c i = (0 : EReal)) (t : Fin 512) (l : Fin 128) :
    k0_pay29 (F := Ideal) (k0_pay25 D w I v a b c) (k0_pay26 D w I v a b c) (ix2 t l) = (0 : EReal) := by
  have e : ∀ P : FVec Ideal S512x128 .f32, (∀ i, P i - P i = (0 : EReal)) →
      k0_pay29 (F := Ideal) (subf P (extf .f32 (truncf .bf16 P bitsLt_bf16_f32) bitsLt_bf16_f32))
        (extf .f32 (truncf .bf16 (subf P (extf .f32 (truncf .bf16 P bitsLt_bf16_f32) bitsLt_bf16_f32)) bitsLt_bf16_f32) bitsLt_bf16_f32) (ix2 t l) = (0 : EReal) := fun P h => by
    pointwise [k0_pay29]
    rw [h, sub_zero]
  exact e _ hP
end

/-- The high table at a token and head is the code scale of the head's group times the decay. -/
theorem hiT_at (D : FVec Ideal S512x128 .f32) (w : FVec Ideal S512x8 .f32) (t : Fin 512) (l : Fin 128) :
    hiT D w (ix2 t l) = (w (ix2 t ⟨l.val / 16, by omega⟩) * D (ix2 t l) : EReal) :=
  (hi_val _ _ _ _ _ _ _ t l).trans (prod_at D w t l)

/-- Where the product of scales and decay is a number, what it leaves off its high part is zero. -/
theorem rest_zero (D : FVec Ideal S512x128 .f32) (w : FVec Ideal S512x8 .f32)
    (h : ∀ t l, ∃ r : ℝ, (w (ix2 t ⟨l.val / 16, by omega⟩) * D (ix2 t l) : EReal) = r) (i : S512x128.Idx) :
    prod D w lanes i - prod D w lanes i = (0 : EReal) := by
  obtain ⟨t, l, rfl⟩ : ∃ t l, i = ix2 t l := ⟨i 0, i 1, by funext q; fin_cases q <;> rfl⟩
  obtain ⟨r, hr⟩ := h t l
  rw [prod_at, hr, ← EReal.coe_sub, sub_self, EReal.coe_zero]

/-- The middle table is zero when every code scale times decay is a real number. -/
theorem midT_at (D : FVec Ideal S512x128 .f32) (w : FVec Ideal S512x8 .f32)
    (h : ∀ t l, ∃ r : ℝ, (w (ix2 t ⟨l.val / 16, by omega⟩) * D (ix2 t l) : EReal) = r) (i : S512x128.Idx) : midT D w i = (0 : EReal) := by
  obtain ⟨t, l, rfl⟩ : ∃ t l, i = ix2 t l := ⟨i 0, i 1, by funext q; fin_cases q <;> rfl⟩
  exact mid_val _ _ _ _ _ _ _ (rest_zero D w h) t l

/-- The low table is zero when every code scale times decay is a real number. -/
theorem loT_at (D : FVec Ideal S512x128 .f32) (w : FVec Ideal S512x8 .f32)
    (h : ∀ t l, ∃ r : ℝ, (w (ix2 t ⟨l.val / 16, by omega⟩) * D (ix2 t l) : EReal) = r) (i : S512x128.Idx) : loT D w i = (0 : EReal) := by
  obtain ⟨t, l, rfl⟩ : ∃ t l, i = ix2 t l := ⟨i 0, i 1, by funext q; fin_cases q <;> rfl⟩
  exact lo_val _ _ _ _ _ _ _ (rest_zero D w h) t l

/-- A batch entry's first point fills the high scratch with the entry's high table. -/
theorem hi_first (c : Dev nD) (t : Fin cfg0.N) (h1 : t.val % 8 = 0) : (outsAt0 m c t.val t.isLt).2.2.2.2.1 = hiT (DEC m c t) (k0_pay6 (iblk m c 2 t)) := by
  funext y
  by_cases h0 : t.val % 24 = 0
  · rw [outsAt0_A m c t h0 h1]
    frame_open
    simp (disch := decide) only [↓ View.readCov_skip, ↓ View.readCov_cons_toLoadRect, ↓ View.readCov_fill]
    frame_out
    rfl
  · rw [outsAt0_C m c t h0 h1]
    frame_open
    simp (disch := decide) only [↓ View.readCov_skip, ↓ View.readCov_cons_toLoadRect, ↓ View.readCov_fill]
    frame_out
    rfl

/-- The other points leave the high scratch as the point before left it. -/
theorem hi_hold (c : Dev nD) (t : Fin cfg0.N) (h1 : ¬t.val % 8 = 0) :
    (outsAt0 m c t.val t.isLt).2.2.2.2.1 = (outsAt0 m c (t.val - 1) (by omega)).2.2.2.2.1 := by
  rw [outsAt0_B m c t (by omega) h1]
  rfl

/-- The high parts kept. -/
theorem hi_held (c : Dev nD) (t : Fin cfg0.N) :
    (outsAt0 m c t.val t.isLt).2.2.2.2.1 = (fun t => hiT (DEC m c t) (k0_pay6 (iblk m c 2 t))) ⟨8 * (t.val / 8), Pipeline.run_start_lt t⟩ :=
  Pipeline.eq_of_write_hold (fun n h => (outsAt0 m c n h).2.2.2.2.1) 8 (fun t => hiT (DEC m c t) (k0_pay6 (iblk m c 2 t))) (fun t h => hi_first m c t h) (fun t h => hi_hold m c t h) t

/-- A batch entry's first point fills the middle scratch with the entry's middle table. -/
theorem mid_first (c : Dev nD) (t : Fin cfg0.N) (h1 : t.val % 8 = 0) : (outsAt0 m c t.val t.isLt).2.2.2.2.2.1 = midT (DEC m c t) (k0_pay6 (iblk m c 2 t)) := by
  funext y
  by_cases h0 : t.val % 24 = 0
  · rw [outsAt0_A m c t h0 h1]
    frame_open
    simp (disch := decide) only [↓ View.readCov_skip, ↓ View.readCov_cons_toLoadRect, ↓ View.readCov_fill]
    frame_out
    rfl
  · rw [outsAt0_C m c t h0 h1]
    frame_open
    simp (disch := decide) only [↓ View.readCov_skip, ↓ View.readCov_cons_toLoadRect, ↓ View.readCov_fill]
    frame_out
    rfl

/-- The other points leave the middle scratch as the point before left it. -/
theorem mid_hold (c : Dev nD) (t : Fin cfg0.N) (h1 : ¬t.val % 8 = 0) :
    (outsAt0 m c t.val t.isLt).2.2.2.2.2.1 = (outsAt0 m c (t.val - 1) (by omega)).2.2.2.2.2.1 := by
  rw [outsAt0_B m c t (by omega) h1]
  rfl

/-- The middle parts kept. -/
theorem mid_held (c : Dev nD) (t : Fin cfg0.N) :
    (outsAt0 m c t.val t.isLt).2.2.2.2.2.1 = (fun t => midT (DEC m c t) (k0_pay6 (iblk m c 2 t))) ⟨8 * (t.val / 8), Pipeline.run_start_lt t⟩ :=
  Pipeline.eq_of_write_hold (fun n h => (outsAt0 m c n h).2.2.2.2.2.1) 8 (fun t => midT (DEC m c t) (k0_pay6 (iblk m c 2 t))) (fun t h => mid_first m c t h) (fun t h => mid_hold m c t h) t

/-- A batch entry's first point fills the low scratch with the entry's low table. -/
theorem lo_first (c : Dev nD) (t : Fin cfg0.N) (h1 : t.val % 8 = 0) : (outsAt0 m c t.val t.isLt).2.2.2.2.2.2.1 = loT (DEC m c t) (k0_pay6 (iblk m c 2 t)) := by
  funext y
  by_cases h0 : t.val % 24 = 0
  · rw [outsAt0_A m c t h0 h1]
    frame_open
    simp (disch := decide) only [↓ View.readCov_skip, ↓ View.readCov_cons_toLoadRect, ↓ View.readCov_fill]
    frame_out
    rfl
  · rw [outsAt0_C m c t h0 h1]
    frame_open
    simp (disch := decide) only [↓ View.readCov_skip, ↓ View.readCov_cons_toLoadRect, ↓ View.readCov_fill]
    frame_out
    rfl

/-- The other points leave the low scratch as the point before left it. -/
theorem lo_hold (c : Dev nD) (t : Fin cfg0.N) (h1 : ¬t.val % 8 = 0) :
    (outsAt0 m c t.val t.isLt).2.2.2.2.2.2.1 = (outsAt0 m c (t.val - 1) (by omega)).2.2.2.2.2.2.1 := by
  rw [outsAt0_B m c t (by omega) h1]
  rfl

/-- The low parts kept. -/
theorem lo_held (c : Dev nD) (t : Fin cfg0.N) :
    (outsAt0 m c t.val t.isLt).2.2.2.2.2.2.1 = (fun t => loT (DEC m c t) (k0_pay6 (iblk m c 2 t))) ⟨8 * (t.val / 8), Pipeline.run_start_lt t⟩ :=
  Pipeline.eq_of_write_hold (fun n h => (outsAt0 m c n h).2.2.2.2.2.2.1) 8 (fun t => loT (DEC m c t) (k0_pay6 (iblk m c 2 t))) (fun t h => lo_first m c t h) (fun t h => lo_hold m c t h) t

/-- The grid's first point fills the expansion table. -/
theorem table_first (c : Dev nD) (t : Fin cfg0.N) (h0 : t.val % 24 = 0) : (outsAt0 m c t.val t.isLt).2.2.2.2.2.2.2.1 = (k0_pay122 (F := Ideal) k0_pay2 : FVec Ideal S128x1024 .bf16) := by
  funext y
  rw [outsAt0_A m c t h0 (by omega)]
  frame_open
  simp (disch := decide) only [↓ View.readCov_skip, ↓ View.readCov_cons_toLoadRect, ↓ View.readCov_fill]
  frame_out
  rfl

/-- The other points leave the expansion table as the point before left it. -/
theorem table_hold (c : Dev nD) (t : Fin cfg0.N) (h0 : ¬t.val % 24 = 0) :
    (outsAt0 m c t.val t.isLt).2.2.2.2.2.2.2.1 = (outsAt0 m c (t.val - 1) (by omega)).2.2.2.2.2.2.2.1 := by
  by_cases h1 : t.val % 8 = 0
  · rw [outsAt0_C m c t h0 h1]
    rfl
  · rw [outsAt0_B m c t h0 h1]
    rfl

/-- The expansion table the launch's first point writes is kept to the end. -/
theorem table_held (c : Dev nD) (t : Fin cfg0.N) : (outsAt0 m c t.val t.isLt).2.2.2.2.2.2.2.1 = (k0_pay122 (F := Ideal) k0_pay2 : FVec Ideal S128x1024 .bf16) :=
  Pipeline.eq_of_write_hold (fun n h => (outsAt0 m c n h).2.2.2.2.2.2.2.1) 24 (fun _ => (k0_pay122 (F := Ideal) k0_pay2 : FVec Ideal S128x1024 .bf16)) (fun t h => table_first m c t h) (fun t h => table_hold m c t h) t

end Cert.Own
-- ==== Proof.Own.KerHeldCode.lean ====
module

public import proofs.«01_k».proof.Proof.Gen.KernelIdeal.Value
public import proofs.«01_k».proof.Proof.Own.KerOut
public import proofs.«01_k».proof.Proof.Own.KerParts
public import proofs.«01_k».proof.Proof.Own.KerCode
public import Idealize.ShloMosaic.Lib.Pointwise
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Own

open Idealize.ShloMosaic Idealize.ShloMosaic.TcCoe Idealize.SL.Sem
open Cert.KernelIdeal Cert.KernelIdeal.Gen
variable (m : (ℓ : Loc nD τ sig) → Buf (Elt Ideal) ℓ)

/-- A batch entry's first point fills the code scratch with the entry's codes, sorted by group. -/
theorem code_first (c : Dev nD) (t : Fin cfg0.N) (h1 : t.val % 8 = 0) : (outsAt0 m c t.val t.isLt).2.2.2.1 = code8 (iblk m c 1 t) := by
  funext y
  by_cases h0 : t.val % 24 = 0
  · rw [outsAt0_A m c t h0 h1]
    frame_open
    simp (disch := decide) only [↓ View.readCov_skip, ↓ View.readCov_cons_toLoadRect, ↓ View.readCov_fill]
    frame_out
    canon_tiles x h
    · exact piece_hi (iblk m c 1 t) 7 (by decide) _ x y h0 h1 h2
    · exact piece_lo (iblk m c 1 t) 7 (by decide) _ x y h0 h1 h2
    · exact piece_hi (iblk m c 1 t) 6 (by decide) _ x y h0 h1 h2
    · exact piece_lo (iblk m c 1 t) 6 (by decide) _ x y h0 h1 h2
    · exact piece_hi (iblk m c 1 t) 5 (by decide) _ x y h0 h1 h2
    · exact piece_lo (iblk m c 1 t) 5 (by decide) _ x y h0 h1 h2
    · exact piece_hi (iblk m c 1 t) 4 (by decide) _ x y h0 h1 h2
    · exact piece_lo (iblk m c 1 t) 4 (by decide) _ x y h0 h1 h2
    · exact piece_hi (iblk m c 1 t) 3 (by decide) _ x y h0 h1 h2
    · exact piece_lo (iblk m c 1 t) 3 (by decide) _ x y h0 h1 h2
    · exact piece_hi (iblk m c 1 t) 2 (by decide) _ x y h0 h1 h2
    · exact piece_lo (iblk m c 1 t) 2 (by decide) _ x y h0 h1 h2
    · exact piece_hi (iblk m c 1 t) 1 (by decide) _ x y h0 h1 h2
    · exact piece_lo (iblk m c 1 t) 1 (by decide) _ x y h0 h1 h2
    · exact piece_hi (iblk m c 1 t) 0 (by decide) _ x y (h0.trans (Nat.zero_add _).symm) h1 h2
    · exact piece_lo (iblk m c 1 t) 0 (by decide) _ x y (h0.trans (Nat.zero_add _).symm) h1 h2
  · rw [outsAt0_C m c t h0 h1]
    frame_open
    simp (disch := decide) only [↓ View.readCov_skip, ↓ View.readCov_cons_toLoadRect, ↓ View.readCov_fill]
    frame_out
    canon_tiles x h
    · exact piece_hi (iblk m c 1 t) 7 (by decide) _ x y h0 h1 h2
    · exact piece_lo (iblk m c 1 t) 7 (by decide) _ x y h0 h1 h2
    · exact piece_hi (iblk m c 1 t) 6 (by decide) _ x y h0 h1 h2
    · exact piece_lo (iblk m c 1 t) 6 (by decide) _ x y h0 h1 h2
    · exact piece_hi (iblk m c 1 t) 5 (by decide) _ x y h0 h1 h2
    · exact piece_lo (iblk m c 1 t) 5 (by decide) _ x y h0 h1 h2
    · exact piece_hi (iblk m c 1 t) 4 (by decide) _ x y h0 h1 h2
    · exact piece_lo (iblk m c 1 t) 4 (by decide) _ x y h0 h1 h2
    · exact piece_hi (iblk m c 1 t) 3 (by decide) _ x y h0 h1 h2
    · exact piece_lo (iblk m c 1 t) 3 (by decide) _ x y h0 h1 h2
    · exact piece_hi (iblk m c 1 t) 2 (by decide) _ x y h0 h1 h2
    · exact piece_lo (iblk m c 1 t) 2 (by decide) _ x y h0 h1 h2
    · exact piece_hi (iblk m c 1 t) 1 (by decide) _ x y h0 h1 h2
    · exact piece_lo (iblk m c 1 t) 1 (by decide) _ x y h0 h1 h2
    · exact piece_hi (iblk m c 1 t) 0 (by decide) _ x y (h0.trans (Nat.zero_add _).symm) h1 h2
    · exact piece_lo (iblk m c 1 t) 0 (by decide) _ x y (h0.trans (Nat.zero_add _).symm) h1 h2

/-- The other points leave the code scratch as the point before left it. -/
theorem code_hold (c : Dev nD) (t : Fin cfg0.N) (h1 : ¬t.val % 8 = 0) :
    (outsAt0 m c t.val t.isLt).2.2.2.1 = (outsAt0 m c (t.val - 1) (by omega)).2.2.2.1 := by
  rw [outsAt0_B m c t (by omega) h1]
  rfl

/-- The codes kept with the groups in front. -/
theorem code_held (c : Dev nD) (t : Fin cfg0.N) :
    (outsAt0 m c t.val t.isLt).2.2.2.1 = (fun t => code8 (iblk m c 1 t)) ⟨8 * (t.val / 8), Pipeline.run_start_lt t⟩ :=
  Pipeline.eq_of_write_hold (fun n h => (outsAt0 m c n h).2.2.2.1) 8 (fun t => code8 (iblk m c 1 t)) (fun t h => code_first m c t h) (fun t h => code_hold m c t h) t

end Cert.Own
-- ==== Proof.Own.KerHeldFlat.lean ====
module

public import proofs.«01_k».proof.Proof.Gen.KernelIdeal.Value
public import proofs.«01_k».proof.Proof.Own.KerOut
public import proofs.«01_k».proof.Proof.Own.KerParts
public import proofs.«01_k».proof.Proof.Own.KerCode
public import Idealize.ShloMosaic.Lib.Pointwise
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Own

open Idealize.ShloMosaic Idealize.ShloMosaic.TcCoe Idealize.SL.Sem
open Cert.KernelIdeal Cert.KernelIdeal.Gen
variable (m : (ℓ : Loc nD τ sig) → Buf (Elt Ideal) ℓ)

/-- A batch entry's first point fills the flat scratch with the entry's state scales, two heads to a row. -/
theorem flat_first (c : Dev nD) (t : Fin cfg0.N) (h1 : t.val % 8 = 0) : (outsAt0 m c t.val t.isLt).2.2.2.2.2.2.2.2.1 = flatS (k0_pay30 (iblk m c 6 t)) := by
  funext y
  by_cases h0 : t.val % 24 = 0
  · rw [outsAt0_A m c t h0 h1]
    frame_open
    simp (disch := decide) only [↓ View.readCov_skip, ↓ View.readCov_cons_toLoadRect, ↓ View.readCov_fill]
    frame_out
    canon_tiles x h
    all_goals
      refine (row_piece _ _ _ _ _ _ x y (by first | exact h0 | exact h0.trans (Nat.zero_add _).symm) h1 (by decide) (by decide)).trans ?_
      refine congrArg (fun z => flatS (k0_pay30 z) y) ?_
      frame_out
  · rw [outsAt0_C m c t h0 h1]
    frame_open
    simp (disch := decide) only [↓ View.readCov_skip, ↓ View.readCov_cons_toLoadRect, ↓ View.readCov_fill]
    frame_out
    canon_tiles x h
    all_goals
      refine (row_piece _ _ _ _ _ _ x y (by first | exact h0 | exact h0.trans (Nat.zero_add _).symm) h1 (by decide) (by decide)).trans ?_
      refine congrArg (fun z => flatS (k0_pay30 z) y) ?_
      frame_out

/-- The other points leave the flat scratch as the point before left it. -/
theorem flat_hold (c : Dev nD) (t : Fin cfg0.N) (h1 : ¬t.val % 8 = 0) :
    (outsAt0 m c t.val t.isLt).2.2.2.2.2.2.2.2.1 = (outsAt0 m c (t.val - 1) (by omega)).2.2.2.2.2.2.2.2.1 := by
  rw [outsAt0_B m c t (by omega) h1]
  rfl

/-- The flattened state scales kept. -/
theorem flat_held (c : Dev nD) (t : Fin cfg0.N) :
    (outsAt0 m c t.val t.isLt).2.2.2.2.2.2.2.2.1 = (fun t => flatS (k0_pay30 (iblk m c 6 t))) ⟨8 * (t.val / 8), Pipeline.run_start_lt t⟩ :=
  Pipeline.eq_of_write_hold (fun n h => (outsAt0 m c n h).2.2.2.2.2.2.2.2.1) 8 (fun t => flatS (k0_pay30 (iblk m c 6 t))) (fun t h => flat_first m c t h) (fun t h => flat_hold m c t h) t

end Cert.Own
-- ==== Proof.Own.KerY.lean ====
module

public import proofs.«01_k».proof.Proof.Gen.KernelIdeal.Value
public import proofs.«01_k».proof.Proof.Own.KerOut
public import proofs.«01_k».proof.Proof.Own.KerParts
public import proofs.«01_k».proof.Proof.Own.KerTile
public import Idealize.ShloMosaic.Lib.Pointwise
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Own

open Idealize.ShloMosaic Idealize.ShloMosaic.TcCoe Idealize.SL.Sem
open Cert.KernelIdeal Cert.KernelIdeal.Gen
variable (m : (ℓ : Loc nD τ sig) → Buf (Elt Ideal) ℓ)

/-- The load of the group's codes starts at the group's row. -/
theorem off_code : ∀ t : Fin cfg0.N, k0_off1 (grid0.coords t) = ![(grid0.coords t 1).val, 0, 0] := (by decide +kernel : ∀ t : Fin grid0.N, _)

/-- The load of a tile's state scales starts at the tile's row of the flat scales. -/
theorem off_flat : ∀ (t : Fin cfg0.N) (j : Fin 4) (b : Fin 2),
    k0_off2 (grid0.coords t) (BitVec.ofNat 32 (2 * j.val)) (BitVec.ofNat 32 b.val) = ![8 * (grid0.coords t 1).val + 2 * j.val + b.val, 0] := (by decide +kernel : ∀ t : Fin grid0.N, _)

/-- The group's codes, loaded from the kept codes. -/
theorem ld_code (C : FVec Ideal S8x512x256 .fp8e4m3) (g : ℕ) (hg : g < 8) (off : Fin 3 → ℕ) (ho : off = ![g, 0, 0]) (inb) (a : Fin 512) (n : Fin 256) :
    View.ld (Val := Elt Ideal) (S := S8x512x256) (e' := .fp8e4m3) C (Rect.unit (s := S8x512x256) off S1x512x256.size inb) (ix3 0 a n) = C (ix3 ⟨g, hg⟩ a n) := by
  subst ho
  refine View.ld_unit_apply_of _ _ _ inb _ _ fun a => ?_
  fin_cases a <;> simp

/-- One row of the flat scales, loaded. -/
theorem ld_flat (S : FVec Ideal S64x128 .f32) (r : ℕ) (hr : r < 64) (off : Fin 2 → ℕ) (ho : off = ![r, 0]) (inb) (l : Fin 128) :
    View.ld (Val := Elt Ideal) (S := S64x128) (e' := .f32) S (Rect.unit (s := S64x128) off S1x128.size inb) (ix2 0 l) = S (ix2 ⟨r, hr⟩ l) := by
  subst ho
  refine View.ld_unit_apply_of _ _ _ inb _ _ fun a => ?_
  fin_cases a <;> simp

/-- Four heads' state codes, loaded. -/
theorem ld_h0 (X : FVec Ideal S1x16x64x256 .fp8e4m3) (o : ℕ) (inb) (q : Fin 4) (p : Fin 64) (n : Fin 256) (ho : o + q.val < 16) :
    View.ld (Val := Elt Ideal) (S := S1x16x64x256) (e' := .fp8e4m3) X (Rect.unit (s := S1x16x64x256) ![0, o, 0, 0] S1x4x64x256.size inb) (ix4 0 q p n) = X (ix4 0 ⟨o + q.val, ho⟩ p n) := by
  refine View.ld_unit_apply_of _ _ _ inb _ _ fun a => ?_
  fin_cases a <;> simp

/-- 256 columns of the table, loaded. -/
theorem ld_tab (E : FVec Ideal S128x1024 .bf16) (o : ℕ) (inb) (k : Fin 128) (i : Fin 256) (ho : o + i.val < 1024) :
    View.ld (Val := Elt Ideal) (S := S128x1024) (e' := .bf16) E (Rect.unit (s := S128x1024) ![0, o] S128x256.size inb) (ix2 k i) = E (ix2 k ⟨o + i.val, ho⟩) := by
  refine View.ld_unit_apply_of _ _ _ inb _ _ fun a => ?_
  fin_cases a <;> simp

/-- 128 columns of the input block, loaded. -/
theorem ld_y (X : FVec Ideal S1x512x1024 .bf16) (o : ℕ) (inb) (k : Fin 512) (i : Fin 128) (ho : o + i.val < 1024) :
    View.ld (Val := Elt Ideal) (S := S1x512x1024) (e' := .bf16) X (Rect.unit (s := S1x512x1024) ![0, 0, o] S1x512x128.size inb) (ix3 0 k i) = X (ix3 0 k ⟨o + i.val, ho⟩) := by
  refine View.ld_unit_apply_of _ _ _ inb _ _ fun a => ?_
  fin_cases a <;> simp

/-- An even tile of the group's block, from its loads of the kept buffers and of the two blocks. -/
theorem even_ld (c : Dev nD) (t : Fin cfg0.N) (j : Fin 4) (C8 : FVec Ideal S8x512x256 .fp8e4m3) (P : FVec Ideal S512x128 .bf16)
    (E : FVec Ideal S128x1024 .bf16) (S : FVec Ideal S64x128 .f32) (i1 i2 i3 i4 i5) (x : S1x512x128.Idx) (y : S1x512x1024.Idx)
    (h1 : (y 1 : ℕ) = (x 1 : ℕ)) (h2 : (y 2 : ℕ) = 256 * j.val + (x 2 : ℕ)) :
    k0_pay131 (F := Ideal)
      (k0_pay129 (View.ld (Val := Elt Ideal) (S := S8x512x256) (e' := .fp8e4m3) C8 (Rect.unit (s := S8x512x256) (k0_off1 (grid0.coords t)) S1x512x256.size i1))
        (View.ld (Val := Elt Ideal) (S := S1x16x64x256) (e' := .fp8e4m3) (iblk m c 5 t) (Rect.unit (s := S1x16x64x256) ![0, 4 * j.val, 0, 0] S1x4x64x256.size i2)))
      (k0_pay135 P (View.ld (Val := Elt Ideal) (S := S128x1024) (e' := .bf16) E (Rect.unit (s := S128x1024) ![0, 256 * j.val] S128x256.size i3)))
      (View.ld (Val := Elt Ideal) (S := S64x128) (e' := .f32) S
        (Rect.unit (s := S64x128) (k0_off2 (grid0.coords t) (BitVec.ofNat 32 (2 * j.val)) (BitVec.ofNat 32 0)) S1x128.size i4))
      (View.ld (Val := Elt Ideal) (S := S1x512x1024) (e' := .bf16) (iblk m c 0 t) (Rect.unit (s := S1x512x1024) ![0, 0, 256 * j.val] S1x512x128.size i5)) x
      = yF (grid0.coords t 1).val (group_lt t) (iblk m c 0 t) (iblk m c 5 t) C8 P E S (y 1) (y 2) :=
  tile_even _ _ P _ _ _ (grid0.coords t 1).val (group_lt t) (iblk m c 0 t) (iblk m c 5 t) C8 E S j j.isLt x y
    (fun a n => ld_code _ _ (group_lt t) _ (off_code t) _ a n) (fun q p n => ld_h0 _ _ _ q p n (by omega)) (fun k i => ld_tab _ _ _ k i (by omega))
    (fun l => ld_flat _ _ (by have := group_lt t; omega) _ (off_flat t j 0) _ l) (fun a l => ld_y _ _ _ a l (by omega)) h1 h2

/-- An odd tile of the group's block, from its loads of the kept buffers and of the two blocks. -/
theorem odd_ld (c : Dev nD) (t : Fin cfg0.N) (j : Fin 4) (C8 : FVec Ideal S8x512x256 .fp8e4m3) (P : FVec Ideal S512x128 .bf16)
    (E : FVec Ideal S128x1024 .bf16) (S : FVec Ideal S64x128 .f32) (i1 i2 i3 i4 i5) (x : S1x512x128.Idx) (y : S1x512x1024.Idx)
    (h1 : (y 1 : ℕ) = (x 1 : ℕ)) (h2 : (y 2 : ℕ) = 256 * j.val + 128 + (x 2 : ℕ)) :
    k0_pay148 (F := Ideal)
      (k0_pay129 (View.ld (Val := Elt Ideal) (S := S8x512x256) (e' := .fp8e4m3) C8 (Rect.unit (s := S8x512x256) (k0_off1 (grid0.coords t)) S1x512x256.size i1))
        (View.ld (Val := Elt Ideal) (S := S1x16x64x256) (e' := .fp8e4m3) (iblk m c 5 t) (Rect.unit (s := S1x16x64x256) ![0, 4 * j.val, 0, 0] S1x4x64x256.size i2)))
      (k0_pay135 P (View.ld (Val := Elt Ideal) (S := S128x1024) (e' := .bf16) E (Rect.unit (s := S128x1024) ![0, 256 * j.val] S128x256.size i3)))
      (View.ld (Val := Elt Ideal) (S := S64x128) (e' := .f32) S
        (Rect.unit (s := S64x128) (k0_off2 (grid0.coords t) (BitVec.ofNat 32 (2 * j.val)) (BitVec.ofNat 32 1)) S1x128.size i4))
      (View.ld (Val := Elt Ideal) (S := S1x512x1024) (e' := .bf16) (iblk m c 0 t) (Rect.unit (s := S1x512x1024) ![0, 0, 256 * j.val + 128] S1x512x128.size i5)) x
      = yF (grid0.coords t 1).val (group_lt t) (iblk m c 0 t) (iblk m c 5 t) C8 P E S (y 1) (y 2) :=
  tile_odd _ _ P _ _ _ (grid0.coords t 1).val (group_lt t) (iblk m c 0 t) (iblk m c 5 t) C8 E S j j.isLt x y
    (fun a n => ld_code _ _ (group_lt t) _ (off_code t) _ a n) (fun q p n => ld_h0 _ _ _ q p n (by omega)) (fun k i => ld_tab _ _ _ k i (by omega))
    (fun l => ld_flat _ _ (by have := group_lt t; omega) _ (off_flat t j 1) _ l) (fun a l => ld_y _ _ _ a l (by omega)) h1 h2

/-- A group's block depends only on the values of what it is made of. -/
theorem yF_congr {g : ℕ} {hg : g < 8} {X0 : FVec Ideal S1x512x1024 .bf16} {X5 : FVec Ideal S1x16x64x256 .fp8e4m3} {C8 C8' : FVec Ideal S8x512x256 .fp8e4m3}
    {H H' M M' L L' : FVec Ideal S512x128 .f32} {E E' : FVec Ideal S128x1024 .bf16} {S S' : FVec Ideal S64x128 .f32} (a : Fin 512) (b : Fin 1024)
    (hC : C8 = C8') (hH : H = H') (hM : M = M') (hL : L = L') (hE : E = E') (hS : S = S') :
    yF g hg X0 X5 C8 (partsT g H M L) E S a b = yF g hg X0 X5 C8' (partsT g H' M' L') E' S' a b := by
  subst hC hH hM hL hE hS
  rfl

/-- At a point that opens neither the grid nor a batch entry, the output block is the group's block of the kept buffers. -/
theorem y_rest (c : Dev nD) (t : Fin cfg0.N) (h0 : ¬ t.val % 24 = 0) (h1 : ¬ t.val % 8 = 0) (y : S1x512x1024.Idx) :
    (outsAt0 m c t.val t.isLt).1 y = yF (grid0.coords t 1).val (group_lt t) (iblk m c 0 t) (iblk m c 5 t) (outsAt0 m c t.val t.isLt).2.2.2.1
      (partsT (grid0.coords t 1).val (outsAt0 m c t.val t.isLt).2.2.2.2.1 (outsAt0 m c t.val t.isLt).2.2.2.2.2.1 (outsAt0 m c t.val t.isLt).2.2.2.2.2.2.1)
      (outsAt0 m c t.val t.isLt).2.2.2.2.2.2.2.1 (outsAt0 m c t.val t.isLt).2.2.2.2.2.2.2.2.1 (y 1) (y 2) := by
  rw [outsAt0_B m c t h0 h1]
  frame_open
  frame_out
  canon_tiles x h
  · exact (odd_ld m c t 3 _ _ _ _ _ _ _ _ _ x y h1 (by omega)).trans (yF_congr _ _ (read_unread_whole _ _ _) (read_unread_whole _ _ _) (read_unread_whole _ _ _) (read_unread_whole _ _ _) (read_unread_whole _ _ _) (read_unread_whole _ _ _))
  · exact (even_ld m c t 3 _ _ _ _ _ _ _ _ _ x y h1 (by omega)).trans (yF_congr _ _ (read_unread_whole _ _ _) (read_unread_whole _ _ _) (read_unread_whole _ _ _) (read_unread_whole _ _ _) (read_unread_whole _ _ _) (read_unread_whole _ _ _))
  · exact (odd_ld m c t 2 _ _ _ _ _ _ _ _ _ x y h1 (by omega)).trans (yF_congr _ _ (read_unread_whole _ _ _) (read_unread_whole _ _ _) (read_unread_whole _ _ _) (read_unread_whole _ _ _) (read_unread_whole _ _ _) (read_unread_whole _ _ _))
  · exact (even_ld m c t 2 _ _ _ _ _ _ _ _ _ x y h1 (by omega)).trans (yF_congr _ _ (read_unread_whole _ _ _) (read_unread_whole _ _ _) (read_unread_whole _ _ _) (read_unread_whole _ _ _) (read_unread_whole _ _ _) (read_unread_whole _ _ _))
  · exact (odd_ld m c t 1 _ _ _ _ _ _ _ _ _ x y h1 (by omega)).trans (yF_congr _ _ (read_unread_whole _ _ _) (read_unread_whole _ _ _) (read_unread_whole _ _ _) (read_unread_whole _ _ _) (read_unread_whole _ _ _) (read_unread_whole _ _ _))
  · exact (even_ld m c t 1 _ _ _ _ _ _ _ _ _ x y h1 (by omega)).trans (yF_congr _ _ (read_unread_whole _ _ _) (read_unread_whole _ _ _) (read_unread_whole _ _ _) (read_unread_whole _ _ _) (read_unread_whole _ _ _) (read_unread_whole _ _ _))
  · exact (odd_ld m c t 0 _ _ _ _ _ _ _ _ _ x y h1 (by omega)).trans (yF_congr _ _ (read_unread_whole _ _ _) (read_unread_whole _ _ _) (read_unread_whole _ _ _) (read_unread_whole _ _ _) (read_unread_whole _ _ _) (read_unread_whole _ _ _))
  · exact (even_ld m c t 0 _ _ _ _ _ _ _ _ _ x y h1 (by omega)).trans (yF_congr _ _ (read_unread_whole _ _ _) (read_unread_whole _ _ _) (read_unread_whole _ _ _) (read_unread_whole _ _ _) (read_unread_whole _ _ _) (read_unread_whole _ _ _))

/-- At the first point the output block is the group's block of the buffers as this point fills them. -/
theorem y_first (c : Dev nD) (t : Fin cfg0.N) (h0 : t.val % 24 = 0) (h1 : t.val % 8 = 0) (y : S1x512x1024.Idx) :
    (outsAt0 m c t.val t.isLt).1 y = yF (grid0.coords t 1).val (group_lt t) (iblk m c 0 t) (iblk m c 5 t) (outsAt0 m c t.val t.isLt).2.2.2.1
      (partsT (grid0.coords t 1).val (outsAt0 m c t.val t.isLt).2.2.2.2.1 (outsAt0 m c t.val t.isLt).2.2.2.2.2.1 (outsAt0 m c t.val t.isLt).2.2.2.2.2.2.1)
      (outsAt0 m c t.val t.isLt).2.2.2.2.2.2.2.1 (outsAt0 m c t.val t.isLt).2.2.2.2.2.2.2.2.1 (y 1) (y 2) := by
  rw [outsAt0_A m c t h0 h1]
  frame_open
  simp (disch := decide) only [↓ View.readCov_skip, ↓ View.readCov_cons_toLoadRect, ↓ View.readCov_fill]
  frame_out
  canon_tiles x h
  · exact (odd_ld m c t 3 _ _ _ _ _ _ _ _ _ x y h1 (by omega)).trans (yF_congr _ _ rfl rfl rfl rfl rfl rfl)
  · exact (even_ld m c t 3 _ _ _ _ _ _ _ _ _ x y h1 (by omega)).trans (yF_congr _ _ rfl rfl rfl rfl rfl rfl)
  · exact (odd_ld m c t 2 _ _ _ _ _ _ _ _ _ x y h1 (by omega)).trans (yF_congr _ _ rfl rfl rfl rfl rfl rfl)
  · exact (even_ld m c t 2 _ _ _ _ _ _ _ _ _ x y h1 (by omega)).trans (yF_congr _ _ rfl rfl rfl rfl rfl rfl)
  · exact (odd_ld m c t 1 _ _ _ _ _ _ _ _ _ x y h1 (by omega)).trans (yF_congr _ _ rfl rfl rfl rfl rfl rfl)
  · exact (even_ld m c t 1 _ _ _ _ _ _ _ _ _ x y h1 (by omega)).trans (yF_congr _ _ rfl rfl rfl rfl rfl rfl)
  · exact (odd_ld m c t 0 _ _ _ _ _ _ _ _ _ x y h1 (by omega)).trans (yF_congr _ _ rfl rfl rfl rfl rfl rfl)
  · exact (even_ld m c t 0 _ _ _ _ _ _ _ _ _ x y h1 (by omega)).trans (yF_congr _ _ rfl rfl rfl rfl rfl rfl)

/-- At the first point of a later batch entry the output block is the group's block of the buffers as this point leaves them. -/
theorem y_entry (c : Dev nD) (t : Fin cfg0.N) (h0 : ¬ t.val % 24 = 0) (h1 : t.val % 8 = 0) (y : S1x512x1024.Idx) :
    (outsAt0 m c t.val t.isLt).1 y = yF (grid0.coords t 1).val (group_lt t) (iblk m c 0 t) (iblk m c 5 t) (outsAt0 m c t.val t.isLt).2.2.2.1
      (partsT (grid0.coords t 1).val (outsAt0 m c t.val t.isLt).2.2.2.2.1 (outsAt0 m c t.val t.isLt).2.2.2.2.2.1 (outsAt0 m c t.val t.isLt).2.2.2.2.2.2.1)
      (outsAt0 m c t.val t.isLt).2.2.2.2.2.2.2.1 (outsAt0 m c t.val t.isLt).2.2.2.2.2.2.2.2.1 (y 1) (y 2) := by
  rw [outsAt0_C m c t h0 h1]
  frame_open
  simp (disch := decide) only [↓ View.readCov_skip, ↓ View.readCov_cons_toLoadRect, ↓ View.readCov_fill]
  frame_out
  canon_tiles x h
  · exact (odd_ld m c t 3 _ _ _ _ _ _ _ _ _ x y h1 (by omega)).trans (yF_congr _ _ rfl rfl rfl rfl (read_unread_whole _ _ _) rfl)
  · exact (even_ld m c t 3 _ _ _ _ _ _ _ _ _ x y h1 (by omega)).trans (yF_congr _ _ rfl rfl rfl rfl (read_unread_whole _ _ _) rfl)
  · exact (odd_ld m c t 2 _ _ _ _ _ _ _ _ _ x y h1 (by omega)).trans (yF_congr _ _ rfl rfl rfl rfl (read_unread_whole _ _ _) rfl)
  · exact (even_ld m c t 2 _ _ _ _ _ _ _ _ _ x y h1 (by omega)).trans (yF_congr _ _ rfl rfl rfl rfl (read_unread_whole _ _ _) rfl)
  · exact (odd_ld m c t 1 _ _ _ _ _ _ _ _ _ x y h1 (by omega)).trans (yF_congr _ _ rfl rfl rfl rfl (read_unread_whole _ _ _) rfl)
  · exact (even_ld m c t 1 _ _ _ _ _ _ _ _ _ x y h1 (by omega)).trans (yF_congr _ _ rfl rfl rfl rfl (read_unread_whole _ _ _) rfl)
  · exact (odd_ld m c t 0 _ _ _ _ _ _ _ _ _ x y h1 (by omega)).trans (yF_congr _ _ rfl rfl rfl rfl (read_unread_whole _ _ _) rfl)
  · exact (even_ld m c t 0 _ _ _ _ _ _ _ _ _ x y h1 (by omega)).trans (yF_congr _ _ rfl rfl rfl rfl (read_unread_whole _ _ _) rfl)

/-- At every point the output block is the group's block of the buffers after the point. -/
theorem y_any (c : Dev nD) (t : Fin cfg0.N) (y : S1x512x1024.Idx) :
    (outsAt0 m c t.val t.isLt).1 y = yF (grid0.coords t 1).val (group_lt t) (iblk m c 0 t) (iblk m c 5 t) (outsAt0 m c t.val t.isLt).2.2.2.1
      (partsT (grid0.coords t 1).val (outsAt0 m c t.val t.isLt).2.2.2.2.1 (outsAt0 m c t.val t.isLt).2.2.2.2.2.1 (outsAt0 m c t.val t.isLt).2.2.2.2.2.2.1)
      (outsAt0 m c t.val t.isLt).2.2.2.2.2.2.2.1 (outsAt0 m c t.val t.isLt).2.2.2.2.2.2.2.2.1 (y 1) (y 2) := by
  by_cases h1 : t.val % 8 = 0
  · by_cases h0 : t.val % 24 = 0
    · exact y_first m c t h0 h1 y
    · exact y_entry m c t h0 h1 y
  · exact y_rest m c t (by omega) h1 y

end Cert.Own
-- ==== Proof.Own.KerYOut.lean ====
module

public import proofs.«01_k».proof.Proof.Gen.KernelIdeal.Value
public import proofs.«01_k».proof.Proof.Own.KerOut
public import proofs.«01_k».proof.Proof.Own.KerParts
public import proofs.«01_k».proof.Proof.Own.KerTile
public import proofs.«01_k».proof.Proof.Own.KerCode
public import proofs.«01_k».proof.Proof.Own.KerHeld
public import proofs.«01_k».proof.Proof.Own.KerHeldCode
public import proofs.«01_k».proof.Proof.Own.KerHeldFlat
public import proofs.«01_k».proof.Proof.Own.KerY
public import Idealize.ShloMosaic.Lib.Pointwise
public import Idealize.ShloMosaic.Lib.Pipeline.ValueKit
public import Idealize.ShloMosaic.Lib.Pipeline.ValueKit.Held
public import Idealize.ShloMosaic.Lib.Pipeline.ReadBack

@[expose] public section

set_option maxRecDepth 16384

noncomputable section

namespace Cert.Own

open Idealize.ShloMosaic Idealize.ShloMosaic.TcCoe Idealize.SL.Sem
open Cert.KernelIdeal Cert.KernelIdeal.Gen
variable (m : (ℓ : Loc nD τ sig) → Buf (Elt Ideal) ℓ)

section
variable (c : Dev nD) (t : Fin cfg0.N)

/-- The block of the input is the part of the argument of the batch entry and the group's 1024 channels. -/
theorem y_blk (q : Fin 512) (J : Fin 1024) :
    iblk m c 0 t (ix3 0 q J) = (m ((c : Thread nD τ).loc main_arg0) : FVec Ideal S3x512x8192 .bf16) (ix3 (bat t) q ⟨1024 * (t.val % 8) + J.val, by omega⟩) := by
  blk_ext [iblk, V, idx t]

/-- The block of the codes is the batch entry's part of the argument. -/
theorem cc_blk (q : Fin 512) (g : Fin 8) (n : Fin 256) :
    iblk m c 1 t (ix4 0 q g n) = (m ((c : Thread nD τ).loc main_arg1) : FVec Ideal S3x512x8x256 .fp8e4m3) (ix4 (bat t) q g n) := by
  blk_ext [iblk, V, idx t]

/-- The block of the code scales is the batch entry's part of the argument. -/
theorem cs_blk (q : Fin 512) (g : Fin 8) :
    iblk m c 2 t (ix3 0 q g) = (m ((c : Thread nD τ).loc main_arg2) : FVec Ideal S3x512x8 .f32) (ix3 (bat t) q g) := by
  blk_ext [iblk, V, idx t]

/-- The code scales without their batch axis hold the block's entries. -/
theorem pay6_at (X : FVec Ideal S1x512x8 .f32) (q : Fin 512) (g : Fin 8) : k0_pay6 (F := Ideal) X (ix2 q g) = X (ix3 0 q g) := by
  pointwise [k0_pay6]

/-- The state scales without their batch axis hold the block's entries. -/
theorem pay30_at (X : FVec Ideal S1x128x64 .f32) (h : Fin 128) (p : Fin 64) : k0_pay30 (F := Ideal) X (ix2 h p) = X (ix3 0 h p) := by
  pointwise [k0_pay30]
end

/-- A group's block of the output, from the arrays the kept buffers were filled from. -/
theorem group_y (g : ℕ) (hg : g < 8) (X0 : FVec Ideal S1x512x1024 .bf16) (X5 : FVec Ideal S1x16x64x256 .fp8e4m3) (X1 : FVec Ideal S1x512x8x256 .fp8e4m3)
    (X6 : FVec Ideal S1x128x64 .f32) (D : FVec Ideal S512x128 .f32) (w : FVec Ideal S512x8 .f32)
    (hf : ∀ t l, ∃ r : ℝ, (w (ix2 t ⟨l.val / 16, by omega⟩) * D (ix2 t l) : EReal) = r) (q : Fin 512) (J : Fin 1024) :
    yF g hg X0 X5 (code8 X1) (partsT g (hiT D w) (midT D w) (loT D w)) (k0_pay122 (F := Ideal) k0_pay2) (flatS (k0_pay30 X6)) q J
      = X0 (ix3 0 q J) + (∑ n : Fin 256, (X5 (ix4 0 ⟨J.val / 64, by omega⟩ ⟨J.val % 64, by omega⟩ n) * X1 (ix4 0 q ⟨g, hg⟩ n) : EReal))
        * w (ix2 q ⟨g, hg⟩) * X6 (ix3 0 ⟨16 * g + J.val / 64, by omega⟩ ⟨J.val % 64, by omega⟩) * D (ix2 q ⟨16 * g + J.val / 64, by omega⟩) := by
  unfold yF
  rw [expand g hg _ _ _ (midT_at D w hf) (loT_at D w hf), hiT_at]
  have e1 : (⟨(16 * g + J.val / 64) / 16, by omega⟩ : Fin 8) = ⟨g, hg⟩ := Fin.ext (by dsimp only; omega)
  have e2 : flatS (k0_pay30 (F := Ideal) X6) (ix2 ⟨8 * g + J.val / 128, by omega⟩ ⟨J.val % 128, by omega⟩) = X6 (ix3 0 ⟨16 * g + J.val / 64, by omega⟩ ⟨J.val % 64, by omega⟩) := by
    refine (pay30_at X6 _ _).trans (congrArg₂ (fun a b => X6 (ix3 0 a b)) (Fin.ext ?_) (Fin.ext ?_))
    · change 2 * (8 * g + J.val / 128) + J.val % 128 / 64 = 16 * g + J.val / 64
      omega
    · change J.val % 128 % 64 = J.val % 64
      omega
  have e3 : ∑ n : Fin 256, (code8 X1 (ix3 ⟨g, hg⟩ q n) * X5 (ix4 0 ⟨J.val / 64, by omega⟩ ⟨J.val % 64, by omega⟩ n) : EReal)
      = ∑ n : Fin 256, (X5 (ix4 0 ⟨J.val / 64, by omega⟩ ⟨J.val % 64, by omega⟩ n) * X1 (ix4 0 q ⟨g, hg⟩ n) : EReal) := Finset.sum_congr rfl fun n _ => mul_comm _ _
  rw [e1, e2, e3]
  refine congrArg (fun z : EReal => X0 (ix3 0 q J) + z) ?_
  rw [← mul_assoc, mul_right_comm _ (X6 _) (w _)]

/-- The kernel's first result, where the products of code scales and decay are numbers. -/
theorem y_ker (c : Dev nD)
    (hf : ∀ (b : Fin 3) (q : Fin 512) (g : Fin 8) (h : Fin 128), ∃ r : ℝ, ((fun x : EReal => x) ((m ((c : Thread nD τ).loc main_arg2) : FVec Ideal S3x512x8 .f32) (ix3 b q g))
      * dec (m ((c : Thread nD τ).loc main_arg3)) (m ((c : Thread nD τ).loc main_arg4)) b q.val h : EReal) = r) :
    (dats m 0 c).arrAt 8 cfg0.N = fun i => yR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) := by
  refine (dats m 0 c).arrAt_eq_of_covers 8 _ (by decide +kernel) fun t _ y => ?_
  obtain ⟨q, J, rfl⟩ : ∃ (q : Fin 512) (J : Fin 1024), y = ix3 0 q J := ⟨y 1, y 2, by funext q; fin_cases q <;> first | rfl | exact Subsingleton.elim (α := Fin 1) _ _⟩
  have hy : ((cfg0.win 8).blk t).view.emb (ix3 0 q J) = ix3 (bat t) q ⟨1024 * (t.val % 8) + J.val, by omega⟩ := by
    blk_ext [idx t]
  rw [hy]
  refine (?_ : _ = (outsAt0 m c t.val t.isLt).1 (ix3 0 q J)).trans ?_
  · blk_simp
    rw [after0_8]
  have hn : ∀ (t' : Fin cfg0.N) (a : Fin 512) (l : Fin 128), ∃ r : ℝ,
      (k0_pay6 (F := Ideal) (iblk m c 2 t') (ix2 a ⟨l.val / 16, by omega⟩) * DEC m c t' (ix2 a l) : EReal) = r := fun t' a l => by
    rw [pay6_at, cs_blk, DEC_at]
    exact hf _ _ _ _
  have hb : bat ⟨8 * (t.val / 8), Pipeline.run_start_lt t⟩ = bat t := Fin.ext (by simp [bat])
  refine (y_any m c t _).trans ?_
  rw [code_held, hi_held, mid_held, lo_held, table_held, flat_held]
  refine (group_y (grid0.coords t 1).val (group_lt t) (iblk m c 0 t) (iblk m c 5 t) _ _ _ _ (hn _) q J).trans ?_
  rw [pay6_at, cs_blk, DEC_at, hs_blk, hb, y_blk]
  have hg := group t
  have e1 : (⟨(grid0.coords t 1).val, group_lt t⟩ : Fin 8) = ⟨(1024 * (t.val % 8) + J.val) / 1024, by omega⟩ := Fin.ext (by dsimp only; omega)
  have e2 : (⟨16 * (grid0.coords t 1).val + J.val / 64, by omega⟩ : Fin 128) = ⟨(1024 * (t.val % 8) + J.val) / 64, by omega⟩ := Fin.ext (by dsimp only; omega)
  have e3 : (⟨J.val % 64, by omega⟩ : Fin 64) = ⟨(1024 * (t.val % 8) + J.val) % 64, by omega⟩ := Fin.ext (by dsimp only; omega)
  have e4 : (⟨16 * (t.val % 8) + J.val / 64, by omega⟩ : Fin 128) = ⟨(1024 * (t.val % 8) + J.val) / 64, by omega⟩ := Fin.ext (by dsimp only; omega)
  have e5 : ∀ n : Fin 256, iblk m c 5 t (ix4 0 ⟨J.val / 64, by omega⟩ ⟨J.val % 64, by omega⟩ n) = (m ((c : Thread nD τ).loc main_arg5) : FVec Ideal S3x128x64x256 .fp8e4m3)
      (ix4 (bat t) ⟨(1024 * (t.val % 8) + J.val) / 64, by omega⟩ ⟨(1024 * (t.val % 8) + J.val) % 64, by omega⟩ n) := fun n => by
    rw [h0_blk]
    dsimp only
    rw [e4, e3]
  have e6 : ∀ n : Fin 256, iblk m c 1 ⟨8 * (t.val / 8), Pipeline.run_start_lt t⟩ (ix4 0 q ⟨(grid0.coords t 1).val, group_lt t⟩ n)
      = (m ((c : Thread nD τ).loc main_arg1) : FVec Ideal S3x512x8x256 .fp8e4m3) (ix4 (bat t) q ⟨(1024 * (t.val % 8) + J.val) / 1024, by omega⟩ n) := fun n => by
    rw [cc_blk, hb, e1]
  rw [Finset.sum_congr rfl fun n _ => congrArg₂ (fun a b : EReal => a * b) (e5 n) (e6 n), e1, e2, e3]
  rfl

end Cert.Own
-- ==== Proof.Own.Finite.lean ====
module

public import proofs.«01_k».proof.Proof.Gen.Pre_finite
public import proofs.«01_k».proof.Proof.Own.Spec
public import Idealize.ShloMosaic.Lib.ReduceAll
public import Idealize.ShloMosaic.Lib.Pointwise

@[expose] public section

set_option maxRecDepth 16384

noncomputable section

namespace Cert.Own

open Idealize.ShloMosaic Idealize.ShloMosaic.TcCoe
open Cert.Pre_finite

/-- What lies below plus infinity in absolute value is a number. -/
theorem real_of_abs (x t : EReal) (ht : t = ⊤) (h : max x (-x) < t) : ∃ r : ℝ, x = r := by
  subst ht
  refine ⟨x.toReal, (EReal.coe_toReal ?_ ?_).symm⟩
  · rintro rfl
    exact absurd h (by simp)
  · rintro rfl
    exact absurd h (by simp)

/-- The float word of infinity is infinity. -/
theorem inf_word : Ideal.ofBits .f32 0x7F800000#32 = ⊤ := by
  simp [Ideal.ofBits, Ideal.ieee]

/-- Where the test «in absolute value below plus infinity» is one, the value is a number. -/
theorem real_of_test {s : Shape} (a : FVec Ideal s .f32) (inf : FVec Ideal S_ .f32) (dims : Fin S_.rank → Fin s.rank) (hb : S_.BroadcastsInDim s dims)
    (hi : ∀ j, inf j = (⊤ : EReal)) (i : s.Idx) (h : cmpf .olt (Host.absf a) (broadcastInDim s dims hb inf) i = 1#1) : ∃ r : ℝ, (a i : EReal) = r := by
  refine real_of_abs (a i) ⊤ rfl ?_
  have h' : Ideal.cmp .olt (max (a i) (-(a i))) ⊤ = 1#1 := by
    rw [← hi (fun a => a.elim0)]
    refine Eq.trans ?_ h
    refine congrArg (fun z : EReal => Ideal.cmp .olt (max (a i) (-(a i))) z) ?_
    rw [hi]
    exact (hi _).symm
  by_contra hn
  revert h'
  unfold Ideal.cmp
  simp [hn]

section
variable [Facts]

/-- The precondition makes every code scale, every step and every decay logarithm a number. -/
theorem pre_real (a0 : FVec Ideal S3x512x8192 .bf16) (a1 : FVec Ideal S3x512x8x256 .fp8e4m3) (a2 : FVec Ideal S3x512x8 .f32) (a3 : FVec Ideal S3x512x128 .f32)
    (a4 : FVec Ideal S128 .f32) (a5 : FVec Ideal S3x128x64x256 .fp8e4m3) (a6 : FVec Ideal S3x128x64 .f32) (a7 : FVec Ideal S3x128x64x256 .f32)
    (h : fn (F := Ideal) a0 a1 a2 a3 a4 a5 a6 a7 = fun _ => 1#1) :
    (∀ i, ∃ r : ℝ, (a2 i : EReal) = r) ∧ (∀ i, ∃ r : ℝ, (a3 i : EReal) = r) ∧ (∀ i, ∃ r : ℝ, (a4 i : EReal) = r) := by
  have h0 := congrFun h (fun a => a.elim0)
  dsimp only [fn] at h0
  have : Subsingleton S_.Idx := ⟨fun a b => funext fun x => x.elim0⟩
  obtain ⟨h1, h4⟩ := IntOp.andi_eq_one.1 h0
  obtain ⟨h2, h3⟩ := IntOp.andi_eq_one.1 h1
  exact ⟨fun i => real_of_test _ _ _ _ (fun _ => inf_word) i (Host.reduce_andi_all _ _ _ _ _ h2 i),
    fun i => real_of_test _ _ _ _ (fun _ => inf_word) i (Host.reduce_andi_all _ _ _ _ _ h3 i),
    fun i => real_of_test _ _ _ _ (fun _ => inf_word) i (Host.reduce_andi_all _ _ _ _ _ h4 i)⟩
end

/-- A running sum of numbers is a number. -/
theorem win_real (G : ℕ → EReal) (hG : ∀ i, ∃ r : ℝ, G i = r) (L r : ℕ) : ∃ x : ℝ, win G L r = x := by
  unfold win
  induction L with
  | zero => exact ⟨0, by simp⟩
  | succ L ih =>
    obtain ⟨x, hx⟩ := ih
    obtain ⟨z, hz⟩ := hG (r - L)
    rw [Finset.sum_range_succ, hx, hz]
    by_cases h : L ≤ r
    · exact ⟨x + z, by rw [if_pos h, EReal.coe_add]⟩
    · exact ⟨x, by rw [if_neg h, add_zero]⟩

/-- The exponential of a number is a number. -/
theorem exp_real (x : EReal) (hx : ∃ r : ℝ, x = r) : ∃ r : ℝ, Ideal.exp x = r := by
  obtain ⟨r, rfl⟩ := hx
  exact ⟨Real.exp r, rfl⟩

/-- The decay is a number where the steps and the decay logarithms are. -/
theorem dec_real (dt : (⟨3, ![3, 512, 128]⟩ : Shape).Idx → EReal) (al : (⟨1, ![128]⟩ : Shape).Idx → EReal)
    (hdt : ∀ i, ∃ r : ℝ, dt i = r) (hal : ∀ i, ∃ r : ℝ, al i = r) (b : Fin 3) (r : ℕ) (h : Fin 128) : ∃ x : ℝ, dec dt al b r h = x := by
  unfold dec
  refine exp_real _ (win_real _ (fun i => ?_) 512 r)
  by_cases hi : i < 512
  · obtain ⟨x, hx⟩ := hdt (ix3 b ⟨i, hi⟩ h)
    obtain ⟨z, hz⟩ := exp_real _ (hal (ix1 h))
    exact ⟨x * -z, by rw [dif_pos hi, hx, hz, ← EReal.coe_neg, ← EReal.coe_mul]⟩
  · exact ⟨0, by rw [dif_neg hi, EReal.coe_zero]⟩

/-- The product of a number and the decay is a number. -/
theorem scaled_real (w : EReal) (hw : ∃ r : ℝ, w = r) (dt : (⟨3, ![3, 512, 128]⟩ : Shape).Idx → EReal) (al : (⟨1, ![128]⟩ : Shape).Idx → EReal)
    (hdt : ∀ i, ∃ r : ℝ, dt i = r) (hal : ∀ i, ∃ r : ℝ, al i = r) (b : Fin 3) (r : ℕ) (h : Fin 128) : ∃ x : ℝ, w * dec dt al b r h = x := by
  obtain ⟨x, rfl⟩ := hw
  obtain ⟨z, hz⟩ := dec_real dt al hdt hal b r h
  exact ⟨x * z, by rw [hz, EReal.coe_mul]⟩

end Cert.Own
-- ==== Proof.Own.KerRun.lean ====
module

public import proofs.«01_k».proof.Proof.Gen.KernelIdeal.Value
public import proofs.«01_k».proof.Proof.Own.KerOut
public import proofs.«01_k».proof.Proof.Own.KerYOut
public import proofs.«01_k».proof.Proof.Own.Finite

@[expose] public section

set_option maxRecDepth 16384

noncomputable section

namespace Cert.Own

open Idealize.ShloMosaic Idealize.ShloMosaic.TcCoe Idealize.SL.Sem
open Cert.KernelIdeal Cert.KernelIdeal.Gen
variable (m : (ℓ : Loc nD τ sig) → Buf (Elt Ideal) ℓ)

/-- The precondition makes the kernel's products of code scales and decay numbers. -/
theorem ker_real [Cert.Pre_finite.Facts] (c : Dev nD)
    (h : Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) (b : Fin 3) (q : Fin 512) (g : Fin 8) (e : Fin 128) :
    ∃ r : ℝ, ((fun x : EReal => x) ((m ((c : Thread nD τ).loc main_arg2) : FVec Ideal S3x512x8 .f32) (ix3 b q g)) * dec (m ((c : Thread nD τ).loc main_arg3)) (m ((c : Thread nD τ).loc main_arg4)) b q.val e : EReal) = r := by
  obtain ⟨h2, h3, h4⟩ := pre_real _ _ _ _ _ _ _ _ h
  exact scaled_real _ (h2 _) _ _ h3 h4 b q.val e

/-- The kernel's run: its three results are the outputs, the codes and the scales of the specification, its arguments unchanged. -/
theorem ker_run [Cert.Pre_finite.Facts] (ρ : Dev nD → PrngReg)
    (h : ∀ c : Dev nD, Cert.Pre_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) :
    θ_run (defs (F := Ideal)) (onTc (τ := τ) (main (F := Ideal))) ⟨m, fun _ => 0, ρ⟩ fun r => ∀ c : Dev nD,
      r.2.mem ((c : Thread nD τ).loc main_v1_0) = (fun i => yR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2))
      ∧ r.2.mem ((c : Thread nD τ).loc main_v1_1) = codesR (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v1_2) = scalesR (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run (defs (F := Ideal)) _ _).mono (fun r hr c => by
    obtain ⟨r0, r1, r2, ra⟩ := hr c
    exact ⟨r0.trans ((Value.final8 m c).symm.trans (y_ker m c (ker_real m c (h c)))), r1.trans ((Value.final9 m c).symm.trans (codes_ker m c)),
      r2.trans ((Value.final10 m c).symm.trans (scales_ker m c)), ra⟩) (Value.run m ρ)

end Cert.Own
-- ==== Proof.Own.RefPay.lean ====
module

public import proofs.«01_k».proof.Proof.Gen.ReferenceIdeal.Skeleton
public import proofs.«01_k».proof.Proof.Own.Quant
public import Idealize.ShloMosaic.Lib.Pointwise

@[expose] public section

set_option maxRecDepth 16384

noncomputable section

namespace Cert.Own

open Idealize.ShloMosaic Idealize.ShloMosaic.TcCoe Idealize.SL.Sem
open Cert.ReferenceIdeal Cert.ReferenceIdeal.Gen

/-- The reference's final state: decay times code times scale, plus the local state. -/
theorem ref_state (a : FVec Ideal S3x128x1x1 .f32) (b : FVec Ideal S3x128x64x256 .f32) (d : FVec Ideal S3x128x64 .f32) (e : FVec Ideal S3x128x64x256 .f32)
   (p : Fin 3) (q : Fin 128) (r : Fin 64) (n : Fin 256): k0_pay5 (F := Ideal) a b d e (ix4 p q r n) = a (ix4 p q 0 0) * (b (ix4 p q r n) * d (ix3 p q r)) + e (ix4 p q r n) := by
  pointwise [k0_pay5]

/-- The maximum over the last axis is a fold over the row's entries. -/
theorem ref_max (v : FVec Ideal S3x128x64x256 .f32)
   (p : Fin 3) (q : Fin 128) (r : Fin 64) : multiReduction FKind.maximumf [3] S3x128x64 v (4286578688#32) reduces_S3x128x64x256_S3x128x64 k0_pay6._proof_2
      k0_pay6._proof_3 (ix3 p q r) = Finset.fold max (Ideal.ofBits FTy.f32 4286578688#32)
              (fun x => v (ix4 p q r x)) Finset.univ := by
  pointwise

/-- The minimum over the powers is a fold over them. -/
theorem ref_min (v : FVec Ideal S3x128x64x246 .f32)
   (p : Fin 3) (q : Fin 128) (r : Fin 64) : multiReduction FKind.minimumf [3] S3x128x64 v (2139095040#32) reduces_S3x128x64x246_S3x128x64 k0_pay6._proof_2
      k0_pay6._proof_4 (ix3 p q r) = Finset.fold min (Ideal.ofBits FTy.f32 2139095040#32)
              (fun x => v (ix4 p q r x)) Finset.univ := by
  pointwise

/-- A row's number spread over the state index. -/
theorem ref_spread (v : FVec Ideal S3x128x64 .f32)
   (p : Fin 3) (q : Fin 128) (r : Fin 64) (n : Fin 256): broadcastTo S3x128x64x256 (shapeCast S3x128x64x1 v shapeCasts_S3x128x64_S3x128x64x1) broadcasts_S3x128x64x1_S3x128x64x256 (ix4 p q r n) = v (ix3 p q r) := by
  pointwise

/-- A row's number spread over the powers. -/
theorem ref_spread' (v : FVec Ideal S3x128x64 .f32)
   (p : Fin 3) (q : Fin 128) (r : Fin 64) (n : Fin 246): broadcastTo S3x128x64x246 (shapeCast S3x128x64x1 v shapeCasts_S3x128x64_S3x128x64x1) broadcasts_S3x128x64x1_S3x128x64x246 (ix4 p q r n) = v (ix3 p q r) := by
  pointwise

/-- The counter along the powers. -/
theorem ref_iota (p : Fin 3) (q : Fin 128) (r : Fin 64) (n : Fin 246) :
    iota Kind.tc S3x128x64x246 32 [3] iota_S3x128x64x246_d3_w32 (ix4 p q r n) = BitVec.ofNat 32 n.val := by
  pointwise

/-! The pointwise operations at an index. -/
section
variable {s : Shape} (x y : FVec Ideal s .f32) (j : s.Idx)

/-- A product of arrays, entry by entry. -/
theorem mulf_at : mulf x y j = (x j * y j : EReal) := Eq.trans rfl rfl

/-- A difference of arrays, entry by entry. -/
theorem subf_at : subf x y j = (x j - y j : EReal) := Eq.trans rfl rfl

/-- The power of two of an array, entry by entry. -/
theorem exp2_at : exp2 x j = Ideal.exp2 (x j) := Eq.trans rfl rfl

/-- The cast of integers to floats is the signed value. -/
theorem sitofp_at (n : IVec s 32) : (sitofp .f32 n : FVec Ideal s .f32) j = (((n j).toInt : ℝ) : EReal) := Eq.trans rfl rfl

/-- A selection between arrays, entry by entry. -/
theorem select_at (c : IVec s 1) : select c x y j = (if c j = 1#1 then x j else y j : EReal) := Eq.trans rfl rfl

/-- The comparison "less" is that of the extended reals. -/
theorem lt_at : (cmpf .olt x y j = 1#1) = ((x j : EReal) < y j) := by
  change (Ideal.cmp .olt (x j) (y j) = 1#1) = _
  by_cases h : (x j : EReal) < y j <;> simp [Ideal.cmp, h]

/-- The comparison "greater" is that of the extended reals. -/
theorem gt_at : (cmpf .ogt x y j = 1#1) = ((y j : EReal) < x j) := by
  change (Ideal.cmp .ogt (x j) (y j) = 1#1) = _
  by_cases h : (y j : EReal) < x j <;> simp [Ideal.cmp, h]

/-- A spread number is the number at every entry. -/
theorem bc_at (v : Ideal .f32) : broadcast s v j = v := Eq.trans rfl rfl

/-- The reading of a float word over the reals. -/
theorem ofBits_at (b : BitVec 32) : (FloatOps.ofBits .f32 b : Ideal .f32) = Ideal.ofBits .f32 b := Eq.trans rfl rfl
end

/-- The reference's scale of a row is the quantiser's scale `rsc` of the row's peak over 448. -/
theorem ref_scale (a : FVec Ideal S3x128x1x1 .f32) (b : FVec Ideal S3x128x64x256 .f32) (d : FVec Ideal S3x128x64 .f32) (e : FVec Ideal S3x128x64x256 .f32)
   (p : Fin 3) (q : Fin 128) (r : Fin 64) : k0_pay6 (F := Ideal) a b d e (ix3 p q r) =
     rsc (amax fun x => k0_pay5 (F := Ideal) a b d e (ix4 p q r x)) := by
  have hx : ∀ w : FVec Ideal S3x128x64x256 .f32, mulf (multiReduction FKind.maximumf [3] S3x128x64 (absf w) (4286578688#32) reduces_S3x128x64x256_S3x128x64 k0_pay6._proof_2
      k0_pay6._proof_3) (broadcast S3x128x64 (FloatOps.ofBits FTy.f32 991054117#32)) (ix3 p q r) = amax fun x => w (ix4 p q r x) := fun w => by
    rw [mulf_at, ref_max]
    exact rfl
  unfold k0_pay6
  generalize k0_pay5 (F := Ideal) a b d e = w
  have hw := hx w
  generalize mulf (multiReduction FKind.maximumf [3] S3x128x64 (absf w) (4286578688#32) reduces_S3x128x64x256_S3x128x64 k0_pay6._proof_2
      k0_pay6._proof_3) (broadcast S3x128x64 (FloatOps.ofBits FTy.f32 991054117#32)) = v40 at hw ⊢
  rw [← hw]
  rw [select_at, ref_min]
  simp only [select_at, gt_at, lt_at, bc_at, ofBits_at, ref_spread', exp2_at, subf_at, sitofp_at, ref_iota]
  unfold rsc
  rw [one_eq]
  have hi : (fun x : Fin 246 => iota Kind.tc S3x128x64x246 32 [3] iota_S3x128x64x246_d3_w32 (ix4 p q r x)) =
    fun x : Fin 246 => BitVec.ofNat 32 x.val := funext fun x => ref_iota p q r x
  have hj := fun x : Fin 246 => congrFun hi x
  dsimp only at hj
  refine congrArg (fun z : EReal => if v40 (ix3 p q r) < Ideal.ofBits FTy.f32 8388608#32 then 1 else z) ?_
  refine Finset.fold_congr fun x _ => ?_
  exact congrArg (fun z : BitVec 32 => if (v40 (ix3 p q r) : EReal) < Ideal.exp2 (((z.toInt : ℝ) : EReal) - Ideal.ofBits FTy.f32 1123680256#32) then
    Ideal.exp2 (((z.toInt : ℝ) : EReal) - Ideal.ofBits FTy.f32 1123680256#32) else Ideal.ofBits FTy.f32 2071986176#32) (hj x)

/-- The reference's code of an entry: the state times the inverse scale, clipped. -/
theorem ref_codes (a : FVec Ideal S3x128x1x1 .f32) (b : FVec Ideal S3x128x64x256 .f32) (d : FVec Ideal S3x128x64 .f32) (e : FVec Ideal S3x128x64x256 .f32)
   (p : Fin 3) (q : Fin 128) (r : Fin 64) (n : Fin 256): k0_pay7 (F := Ideal) a b d e (ix4 p q r n) =
    code (k0_pay5 (F := Ideal) a b d e (ix4 p q r n)) (Ideal.div 1 (k0_pay6 (F := Ideal) a b d e (ix3 p q r))) := by
  have hd : ∀ w : FVec Ideal S3x128x64 .f32, divf (broadcast S3x128x64 (FloatOps.ofBits FTy.f32 1065353216#32 : Ideal .f32)) w (ix3 p q r) =
      Ideal.div 1 (w (ix3 p q r)) := fun w => congrArg (fun z => Ideal.div z (w (ix3 p q r))) one_eq
  unfold k0_pay7
  generalize k0_pay6 (F := Ideal) a b d e = s
  generalize k0_pay5 (F := Ideal) a b d e = w
  exact congrArg (code (w (ix4 p q r n))) ((ref_spread _ p q r n).trans (hd s))

/-- The reference's output: the input plus the score times code scale, state scale and decay. -/
theorem ref_y (v0 : FVec Ideal S3x512x128 .f32) (v2 : FVec Ideal S3x128x64x256 .fp8e4m3) (v4 : FVec Ideal S3x512x8x256 .fp8e4m3)
  (v7 : FVec Ideal S3x512x8 .f32) (v11 : FVec Ideal S3x128x64 .f32) (v18 : FVec Ideal S3x512x8192 .bf16)
   (p : Fin 3) (q : Fin 512) (r : Fin 8192): k0_pay2 (F := Ideal) v0 v2 v4 v7 v11 v18 (ix3 p q r) =
   v18 (ix3 p q r) +
      (∑ x, v2 (ix4 p ⟨↑r / 1024 * 16 + ↑r / 64 % 16, by omega⟩ ⟨↑r % 64, by omega⟩ x) * v4 (ix4 p q ⟨↑r / 1024, by omega⟩ x)) *
            v7 (ix3 p q ⟨↑r / 1024, by omega⟩) *
          v11 (ix3 p ⟨↑r / 1024 * 16 + ↑r / 64 % 16, by omega⟩ ⟨↑r % 64, by omega⟩) *
        v0 (ix3 p q ⟨↑r / 1024 * 16 + ↑r / 64 % 16, by omega⟩) := by
  pointwise [k0_pay2, k0_pay1]

end Cert.Own
-- ==== Proof.Own.RefOut.lean ====
module

public import proofs.«01_k».proof.Proof.Gen.ReferenceIdeal.Value
public import proofs.«01_k».proof.Proof.Own.RefPay
public import proofs.«01_k».proof.Proof.Own.Spec
public import Idealize.ShloMosaic.Lib.Pipeline.ValueKit
public import Idealize.ShloMosaic.Lib.Pointwise

@[expose] public section

set_option maxRecDepth 16384

noncomputable section

namespace Cert.Own

open Idealize.ShloMosaic Idealize.ShloMosaic.TcCoe Idealize.SL.Sem
open Cert.ReferenceIdeal Cert.ReferenceIdeal.Gen
variable (m : (ℓ : Loc nD τ sig) → Buf (Elt Ideal) ℓ)

/-- The reference's gated steps as the host forms them. -/
def stepsT (dt : FVec Ideal S3x512x128 .f32) (al : FVec Ideal S128 .f32) : FVec Ideal S3x512x128 .f32 :=
  mulf dt (broadcastInDim S3x512x128 ![0, 1, 2] bcast_S1x1x128_S3x512x128_0_1_2 (broadcastInDim S1x1x128 ![2] bcast_S128_S1x1x128_2
        (Host.negf (Host.exp al))))

/-- The reference's decay as the host forms it. -/
def decayT (dt : FVec Ideal S3x512x128 .f32) (al : FVec Ideal S128 .f32) : FVec Ideal S3x512x128 .f32 :=
  Host.exp (Host.reduceWindowAdd ![1, 512, 1] ![1, 1, 1] ![0, 511, 0] ![0, 0, 0] (stepsT dt al)
      (broadcastInDim S_ ![] bcast_S_S_ (constant S_ .f32 0x00000000#32)) reduceWindows_S3x512x128_S3x512x128_w1s1p0_0_w512s1p511_0_w1s1p0_0 h_S_)

/-- The host's decay array is the exponential of the running sum of the steps. -/
theorem V_decay (c : Dev nD) : V m c main_v6 = decayT (m ((c : Thread nD τ).loc main_arg3)) (m ((c : Thread nD τ).loc main_arg4)) := by
  unfold decayT stepsT V
  simp only [hostOps0, hostOps0_1, hostOps0_2, List.flatten_cons, List.flatten_nil, List.append_nil, List.cons_append, List.nil_append]
  after_results
  rfl

/-- The step of the decay's logarithm: `dt` times minus the exponential of `a_log`. -/
theorem stepsT_at (dt : FVec Ideal S3x512x128 .f32) (al : FVec Ideal S128 .f32) (b : Fin 3) (r : Fin 512) (h : Fin 128) :
    stepsT dt al (ix3 b r h) = (dt (ix3 b r h) * -(Ideal.exp (al (ix1 h))) : EReal) := by
  pointwise [stepsT]

/-- The exponential of the running sum, entry by entry. -/
theorem cum_at (x : FVec Ideal S3x512x128 .f32) (v : FVec Ideal S_ .f32) (j : S3x512x128.Idx) :
    Host.exp (Host.reduceWindowAdd ![1, 512, 1] ![1, 1, 1] ![0, 511, 0] ![0, 0, 0] x v reduceWindows_S3x512x128_S3x512x128_w1s1p0_0_w512s1p511_0_w1s1p0_0 h_S_) j
      = Ideal.exp (Ideal.hostReduceWindowAdd ![1, 512, 1] ![1, 1, 1] ![0, 511, 0] ![0, 0, 0] reduceWindows_S3x512x128_S3x512x128_w1s1p0_0_w512s1p511_0_w1s1p0_0 x (v (Shape.Idx.first h_S_)) j) := Eq.trans rfl rfl

/-- The running sum starts at zero. -/
theorem zero_at : (broadcastInDim S_ ![] bcast_S_S_ (constant S_ .f32 0x00000000#32) : FVec Ideal S_ .f32) (Shape.Idx.first h_S_) = (0 : EReal) := by
  pointwise

/-- The decay the region reads, at an index. -/
theorem decay_ref (c : Dev nD) (b : Fin 3) (r : Fin 512) (h : Fin 128) :
    V m c main_v6 (ix3 b r h) = dec (m ((c : Thread nD τ).loc main_arg3)) (m ((c : Thread nD τ).loc main_arg4)) b r.val h := by
  rw [V_decay]
  unfold decayT
  rw [cum_at, zero_at]
  unfold dec
  refine congrArg Ideal.exp ((cumsum_at _ _ b r h).trans ?_)
  refine congrArg (fun g => win g 512 r.val) (funext fun i => ?_)
  split
  · exact stepsT_at _ _ _ _ _
  · rfl

/-- The one point's blocks are the whole arrays. -/
theorem idxR : ∀ t : Fin cfg0.N,
    win0_0.index t = ![0, 0, 0] ∧ win0_1.index t = ![0, 0, 0, 0] ∧ win0_2.index t = ![0, 0, 0]
    ∧ win0_3.index t = ![0, 0, 0] ∧ win0_4.index t = ![0, 0, 0, 0] ∧ win0_5.index t = ![0, 0, 0] ∧ win0_6.index t = ![0, 0, 0, 0]
    ∧ win0_7.index t = ![0, 0, 0] ∧ win0_8.index t = ![0, 0, 0, 0] ∧ win0_9.index t = ![0, 0, 0] :=
  (by decide +kernel : ∀ t : Fin grid0.N, _)

/-- The block of the input is the whole argument. -/
theorem blk_y (c : Dev nD) (t : Fin cfg0.N) : iblk m c 0 t = m ((c : Thread nD τ).loc main_arg0) := by
  funext y
  blk_ext [iblk, V, idxR t]

/-- The block of the codes is the whole argument. -/
theorem blk_c (c : Dev nD) (t : Fin cfg0.N) : iblk m c 1 t = m ((c : Thread nD τ).loc main_arg1) := by
  funext y
  blk_ext [iblk, V, idxR t]

/-- The block of the code scales is the whole argument. -/
theorem blk_cs (c : Dev nD) (t : Fin cfg0.N) : iblk m c 2 t = m ((c : Thread nD τ).loc main_arg2) := by
  funext y
  blk_ext [iblk, V, idxR t]

/-- The block of the decay is the whole array. -/
theorem blk_decay (c : Dev nD) (t : Fin cfg0.N) : iblk m c 3 t = V m c main_v6 := by
  funext y
  blk_ext [iblk, idxR t]

/-- The block of the state codes is the whole argument. -/
theorem blk_h0 (c : Dev nD) (t : Fin cfg0.N) : iblk m c 4 t = m ((c : Thread nD τ).loc main_arg5) := by
  funext y
  blk_ext [iblk, V, idxR t]

/-- The block of the state scales is the whole argument. -/
theorem blk_h0s (c : Dev nD) (t : Fin cfg0.N) : iblk m c 5 t = m ((c : Thread nD τ).loc main_arg6) := by
  funext y
  blk_ext [iblk, V, idxR t]

/-- The block of the local states is the whole argument. -/
theorem blk_hl (c : Dev nD) (t : Fin cfg0.N) : iblk m c 6 t = m ((c : Thread nD τ).loc main_arg7) := by
  funext y
  blk_ext [iblk, V, idxR t]

section
variable (x0 : FVec Ideal S3x512x8192 .bf16) (x1 : FVec Ideal S3x512x8x256 .fp8e4m3) (x2 : FVec Ideal S3x512x8 .f32) (x3 : FVec Ideal S3x512x128 .f32)
  (x4 : FVec Ideal S3x128x64x256 .fp8e4m3) (x5 : FVec Ideal S3x128x64 .f32) (x6 : FVec Ideal S3x128x64x256 .f32)

/-- The decay of the final state is that after the last token. -/
theorem last_at (p : Fin 3) (q : Fin 128) : k0_pay8 (F := Ideal) x0 x1 x2 x3 x4 x5 x6 (ix4 p q 0 0) = x3 (ix3 p 511 q) := by
  pointwise [k0_pay8, k0_pay3, k0_pay1, r0_0]

/-- The cast of the state codes keeps every entry. -/
theorem wide_at (p : Fin 3) (q : Fin 128) (r : Fin 64) (n : Fin 256) : k0_pay9 (F := Ideal) x0 x1 x2 x3 x4 x5 x6 (ix4 p q r n) = x4 (ix4 p q r n) := by
  pointwise [k0_pay9, k0_pay4, r0_1]

/-- The reference's final state is the specification's. -/
theorem row_at (p : Fin 3) (q : Fin 128) (r : Fin 64) (n : Fin 256) :
    k0_pay5 (F := Ideal) (k0_pay8 x0 x1 x2 x3 x4 x5 x6) (k0_pay9 x0 x1 x2 x3 x4 x5 x6) x5 x6 (ix4 p q r n) = stRow x4 x5 x6 (x3 (ix3 p 511 q)) p q r n := by
  rw [ref_state, last_at, wide_at]
  rfl
end

/-- The reference's array of scales is the specification's. -/
theorem scales_ref (c : Dev nD) : (dats m 0 c).arrAt 9 cfg0.N
    = scalesR (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  have hy : ((cfg0.win 9).blk t).view.emb y = y := by
    blk_ext [idxR t]
  rw [hy]
  blk_simp
  rw [after0_9]
  frame_out
  rw [blk_h0s, blk_hl]
  generalize hx0 : iblk m c 0 t = x0
  generalize hx1 : iblk m c 1 t = x1
  generalize hx2 : iblk m c 2 t = x2
  rw [blk_decay, blk_h0]
  clear hy
  obtain ⟨p, q, r, rfl⟩ : ∃ p q r, y = ix3 p q r := ⟨y 0, y 1, y 2, by funext a; fin_cases a <;> rfl⟩
  refine (ref_scale _ _ _ _ p q r).trans ?_
  unfold scalesR
  refine congrArg (fun v => rsc (amax v)) (funext fun n => ?_)
  refine (row_at x0 x1 x2 _ _ _ _ p q r n).trans ?_
  rw [decay_ref]
  rfl

/-- The reference's array of codes is the specification's. -/
theorem codes_ref (c : Dev nD) : (dats m 0 c).arrAt 8 cfg0.N
    = codesR (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  have hy : ((cfg0.win 8).blk t).view.emb y = y := by
    blk_ext [idxR t]
  rw [hy]
  blk_simp
  rw [after0_8]
  frame_out
  rw [blk_h0s, blk_hl]
  generalize hx0 : iblk m c 0 t = x0
  generalize hx1 : iblk m c 1 t = x1
  generalize hx2 : iblk m c 2 t = x2
  rw [blk_decay, blk_h0]
  clear hy
  obtain ⟨p, q, r, n, rfl⟩ : ∃ p q r n, y = ix4 p q r n := ⟨y 0, y 1, y 2, y 3, by funext a; fin_cases a <;> rfl⟩
  refine (ref_codes _ _ _ _ p q r n).trans ?_
  rw [ref_scale]
  unfold codesR codeOf
  have hv : (fun n => k0_pay5 (F := Ideal) (k0_pay8 x0 x1 x2 (V m c main_v6) (m ((c : Thread nD τ).loc main_arg5)) (m ((c : Thread nD τ).loc main_arg6)) (m ((c : Thread nD τ).loc main_arg7)))
      (k0_pay9 x0 x1 x2 (V m c main_v6) (m ((c : Thread nD τ).loc main_arg5)) (m ((c : Thread nD τ).loc main_arg6)) (m ((c : Thread nD τ).loc main_arg7)))
      (m ((c : Thread nD τ).loc main_arg6)) (m ((c : Thread nD τ).loc main_arg7)) (ix4 p q r n)) = _ := funext fun n => row_at x0 x1 x2 _ _ _ _ p q r n
  refine (congrArg (fun v : Fin 256 → EReal => code (v n) (Ideal.div 1 (rsc (amax v)))) hv).trans ?_
  rw [decay_ref]
  rfl

/-- The reference's first result. -/
theorem y_ref (c : Dev nD) : (dats m 0 c).arrAt 7 cfg0.N = fun i => yR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2) := by
  refine (dats m 0 c).arrAt_eq_of_covers 7 _ (by decide +kernel) fun t _ y => ?_
  have hy : ((cfg0.win 7).blk t).view.emb y = y := by
    blk_ext [idxR t]
  rw [hy]
  blk_simp
  rw [after0_7]
  frame_out
  rw [blk_h0s, blk_decay, blk_h0, blk_y, blk_c, blk_cs]
  clear hy
  obtain ⟨p, q, r, rfl⟩ : ∃ p q r, y = ix3 p q r := ⟨y 0, y 1, y 2, by funext a; fin_cases a <;> rfl⟩
  refine (ref_y _ _ _ _ _ _ p q r).trans ?_
  have e : (⟨r.val / 1024 * 16 + r.val / 64 % 16, by omega⟩ : Fin 128) = ⟨r.val / 64, by omega⟩ := Fin.ext (by dsimp only; omega)
  rw [e, decay_ref]
  rfl

end Cert.Own
-- ==== Proof.Own.RefRun.lean ====
module

public import proofs.«01_k».proof.Proof.Gen.ReferenceIdeal.Value
public import proofs.«01_k».proof.Proof.Own.RefOut

@[expose] public section

set_option maxRecDepth 16384

noncomputable section

namespace Cert.Own

open Idealize.ShloMosaic Idealize.ShloMosaic.TcCoe Idealize.SL.Sem
open Cert.ReferenceIdeal Cert.ReferenceIdeal.Gen
variable (m : (ℓ : Loc nD τ sig) → Buf (Elt Ideal) ℓ)

/-- The reference's run: its three results are the outputs, the codes and the scales of the specification, its arguments unchanged. -/
theorem ref_run (ρ : Dev nD → PrngReg) :
    θ_run (defs (F := Ideal)) (onTc (τ := τ) (main (F := Ideal))) ⟨m, fun _ => 0, ρ⟩ fun r => ∀ c : Dev nD,
      r.2.mem ((c : Thread nD τ).loc main_v7_0) = (fun i => yR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2))
      ∧ r.2.mem ((c : Thread nD τ).loc main_v7_1) = codesR (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v7_2) = scalesR (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run (defs (F := Ideal)) _ _).mono (fun r hr c => by
    obtain ⟨r0, r1, r2, ra⟩ := hr c
    exact ⟨r0.trans (y_ref m c), r1.trans (codes_ref m c), r2.trans (scales_ref m c), ra⟩) (Value.run_blocks m ρ)

end Cert.Own
-- ==== Proof.lean ====
/- The claims of the certificate, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Pre_finite
public import proofs.«01_k».proof.Proof.Own.KerRun
public import proofs.«01_k».proof.Proof.Own.RefRun
public import Idealize.ShloMosaic.Adequacy
public import Idealize.ShloMosaic.Init

@[expose] public section

noncomputable section

namespace Cert.Proof

open Idealize.ShloMosaic Idealize.SL.Sem Cert.Kernel

/-- Every claim of the certificate: the frames, the idealization, and the equality of the three results of the kernel and the reference. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, by
  intro m g m' g' hp ha
  refine ⟨fun c => fun i => Cert.Own.yR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 0) (i 1) (i 2), fun c => Cert.Own.codesR (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), fun c => Cert.Own.scalesR (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.Own.ker_run m g hp, ?_⟩
  refine (θ_run (Cert.ReferenceIdeal.defs (F := Ideal)) _ _).mono (fun r hr c => ?_) (Cert.Own.ref_run m' g')
  obtain ⟨a0, a1, a2, a3, a4, a5, a6, a7⟩ := ha c
  obtain ⟨r0, r1, r2, ra⟩ := hr c
  rw [a0, a1, a2, a3, a4, a5, a6] at r0
  rw [a3, a4, a5, a6, a7] at r1 r2
  exact ⟨r0, r1, r2, ra⟩⟩

end Cert.Proof

end
